-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x1024 : Shape := ⟨2, ![2, 1024]⟩
abbrev S15x2x1024 : Shape := ⟨3, ![15, 2, 1024]⟩
abbrev S15 : Shape := ⟨1, ![15]⟩
abbrev S_ : Shape := ⟨0, ![]⟩
abbrev S1024 : Shape := ⟨1, ![1024]⟩
abbrev S1x1024 : Shape := ⟨2, ![1, 1024]⟩
abbrev S1 : Shape := ⟨1, ![1]⟩
abbrev S1x2x1024 : Shape := ⟨3, ![1, 2, 1024]⟩
abbrev S15x1x1024 : Shape := ⟨3, ![15, 1, 1024]⟩
abbrev S15x1024 : Shape := ⟨2, ![15, 1024]⟩
abbrev S16x1024 : Shape := ⟨2, ![16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S2048x1024, .f32⟩
  | .local _ .vmem, ⟨1, _⟩ => ⟨S2x1024, .f32⟩
  | .local _ .vmem, ⟨2, _⟩ => ⟨S2x1024, .f32⟩
  | .local _ .vmem, ⟨3, _⟩ => ⟨S15x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v220 : BitVec 32 := Scalar.addi v2 c1_i32_141
  let c16_i32_142 : BitVec 32 := 16#32
  let c0_i32_143 : BitVec 32 := 0#32
  let v221 : BitVec 1 := Scalar.cmpi .eq c16_i32_142 c0_i32_143
  let c1_i32_144 : BitVec 32 := 1#32
  let v222 : BitVec 32 := Scalar.select v221 c1_i32_144 c16_i32_142
  let v223 : BitVec 32 := Scalar.remsi v220 v222
  let c0_i32_146 : BitVec 32 := 0#32
  let v225 : BitVec 1 := Scalar.cmpi .slt v223 c0_i32_146
  let c0_i32_147 : BitVec 32 := 0#32
  let v226 : BitVec 1 := Scalar.cmpi .slt v222 c0_i32_147
  let v227 : BitVec 1 := Scalar.xori v225 v226
  let c0_i32_145 : BitVec 32 := 0#32
  let v224 : BitVec 1 := Scalar.cmpi .ne v223 c0_i32_145
  let v228 : BitVec 1 := Scalar.andi v227 v224
  let v229 : BitVec 32 := Scalar.addi v223 v222
  let v230 : BitVec 32 := Scalar.select v228 v229 v223
  let c1_i32_151 : BitVec 32 := 1#32
  let v231 : BitVec 32 := Scalar.muli v230 c1_i32_151
  let v232 : BitVec 32 := Scalar.addi c0_i32_152 v231
  v232.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_155 : BitVec 32 := 2#32
  let v239 : BitVec 32 := Scalar.addi v2 c2_i32_155
  let c16_i32_156 : BitVec 32 := 16#32
  let c0_i32_157 : BitVec 32 := 0#32
  let v240 : BitVec 1 := Scalar.cmpi .eq c16_i32_156 c0_i32_157
  let c1_i32_158 : BitVec 32 := 1#32
  let v241 : BitVec 32 := Scalar.select v240 c1_i32_158 c16_i32_156
  let v242 : BitVec 32 := Scalar.remsi v239 v241
  let c0_i32_160 : BitVec 32 := 0#32
  let v244 : BitVec 1 := Scalar.cmpi .slt v242 c0_i32_160
  let c0_i32_161 : BitVec 32 := 0#32
  let v245 : BitVec 1 := Scalar.cmpi .slt v241 c0_i32_161
  let v246 : BitVec 1 := Scalar.xori v244 v245
  let c0_i32_159 : BitVec 32 := 0#32
  let v243 : BitVec 1 := Scalar.cmpi .ne v242 c0_i32_159
  let v247 : BitVec 1 := Scalar.andi v246 v243
  let v248 : BitVec 32 := Scalar.addi v242 v241
  let v249 : BitVec 32 := Scalar.select v247 v248 v242
  let c1_i32_165 : BitVec 32 := 1#32
  let v250 : BitVec 32 := Scalar.muli v249 c1_i32_165
  let v251 : BitVec 32 := Scalar.addi c0_i32_166 v250
  v251.toNat
def k0_dev18 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_169 : BitVec 32 := 3#32
  let v258 : BitVec 32 := Scalar.addi v2 c3_i32_169
  let c16_i32_170 : BitVec 32 := 16#32
  let c0_i32_171 : BitVec 32 := 0#32
  let v259 : BitVec 1 := Scalar.cmpi .eq c16_i32_170 c0_i32_171
  let c1_i32_172 : BitVec 32 := 1#32
  let v260 : BitVec 32 := Scalar.select v259 c1_i32_172 c16_i32_170
  let v261 : BitVec 32 := Scalar.remsi v258 v260
  let c0_i32_174 : BitVec 32 := 0#32
  let v263 : BitVec 1 := Scalar.cmpi .slt v261 c0_i32_174
  let c0_i32_175 : BitVec 32 := 0#32
  let v264 : BitVec 1 := Scalar.cmpi .slt v260 c0_i32_175
  let v265 : BitVec 1 := Scalar.xori v263 v264
  let c0_i32_173 : BitVec 32 := 0#32
  let v262 : BitVec 1 := Scalar.cmpi .ne v261 c0_i32_173
  let v266 : BitVec 1 := Scalar.andi v265 v262
  let v267 : BitVec 32 := Scalar.addi v261 v260
  let v268 : BitVec 32 := Scalar.select v266 v267 v261
  let c1_i32_179 : BitVec 32 := 1#32
  let v269 : BitVec 32 := Scalar.muli v268 c1_i32_179
  let v270 : BitVec 32 := Scalar.addi c0_i32_180 v269
  v270.toNat
def k0_dev19 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v277 : BitVec 32 := Scalar.addi v2 c4_i32_183
  let c16_i32_184 : BitVec 32 := 16#32
  let c0_i32_185 : BitVec 32 := 0#32
  let v278 : BitVec 1 := Scalar.cmpi .eq c16_i32_184 c0_i32_185
  let c1_i32_186 : BitVec 32 := 1#32
  let v279 : BitVec 32 := Scalar.select v278 c1_i32_186 c16_i32_184
  let v280 : BitVec 32 := Scalar.remsi v277 v279
  let c0_i32_188 : BitVec 32 := 0#32
  let v282 : BitVec 1 := Scalar.cmpi .slt v280 c0_i32_188
  let c0_i32_189 : BitVec 32 := 0#32
  let v283 : BitVec 1 := Scalar.cmpi .slt v279 c0_i32_189
  let v284 : BitVec 1 := Scalar.xori v282 v283
  let c0_i32_187 : BitVec 32 := 0#32
  let v281 : BitVec 1 := Scalar.cmpi .ne v280 c0_i32_187
  let v285 : BitVec 1 := Scalar.andi v284 v281
  let v286 : BitVec 32 := Scalar.addi v280 v279
  let v287 : BitVec 32 := Scalar.select v285 v286 v280
  let c1_i32_193 : BitVec 32 := 1#32
  let v288 : BitVec 32 := Scalar.muli v287 c1_i32_193
  let v289 : BitVec 32 := Scalar.addi c0_i32_194 v288
  v289.toNat
def k0_dev20 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_197 : BitVec 32 := 5#32
  let v296 : BitVec 32 := Scalar.addi v2 c5_i32_197
  let c16_i32_198 : BitVec 32 := 16#32
  let c0_i32_199 : BitVec 32 := 0#32
  let v297 : BitVec 1 := Scalar.cmpi .eq c16_i32_198 c0_i32_199
  let c1_i32_200 : BitVec 32 := 1#32
  let v298 : BitVec 32 := Scalar.select v297 c1_i32_200 c16_i32_198
  let v299 : BitVec 32 := Scalar.remsi v296 v298
  let c0_i32_202 : BitVec 32 := 0#32
  let v301 : BitVec 1 := Scalar.cmpi .slt v299 c0_i32_202
  let c0_i32_203 : BitVec 32 := 0#32
  let v302 : BitVec 1 := Scalar.cmpi .slt v298 c0_i32_203
  let v303 : BitVec 1 := Scalar.xori v301 v302
  let c0_i32_201 : BitVec 32 := 0#32
  let v300 : BitVec 1 := Scalar.cmpi .ne v299 c0_i32_201
  let v304 : BitVec 1 := Scalar.andi v303 v300
  let v305 : BitVec 32 := Scalar.addi v299 v298
  let v306 : BitVec 32 := Scalar.select v304 v305 v299
  let c1_i32_207 : BitVec 32 := 1#32
  let v307 : BitVec 32 := Scalar.muli v306 c1_i32_207
  let v308 : BitVec 32 := Scalar.addi c0_i32_208 v307
  v308.toNat
def k0_dev21 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_211 : BitVec 32 := 6#32
  let v315 : BitVec 32 := Scalar.addi v2 c6_i32_211
  let c16_i32_212 : BitVec 32 := 16#32
  let c0_i32_213 : BitVec 32 := 0#32
  let v316 : BitVec 1 := Scalar.cmpi .eq c16_i32_212 c0_i32_213
  let c1_i32_214 : BitVec 32 := 1#32
  let v317 : BitVec 32 := Scalar.select v316 c1_i32_214 c16_i32_212
  let v318 : BitVec 32 := Scalar.remsi v315 v317
  let c0_i32_216 : BitVec 32 := 0#32
  let v320 : BitVec 1 := Scalar.cmpi .slt v318 c0_i32_216
  let c0_i32_217 : BitVec 32 := 0#32
  let v321 : BitVec 1 := Scalar.cmpi .slt v317 c0_i32_217
  let v322 : BitVec 1 := Scalar.xori v320 v321
  let c0_i32_215 : BitVec 32 := 0#32
  let v319 : BitVec 1 := Scalar.cmpi .ne v318 c0_i32_215
  let v323 : BitVec 1 := Scalar.andi v322 v319
  let v324 : BitVec 32 := Scalar.addi v318 v317
  let v325 : BitVec 32 := Scalar.select v323 v324 v318
  let c1_i32_221 : BitVec 32 := 1#32
  let v326 : BitVec 32 := Scalar.muli v325 c1_i32_221
  let v327 : BitVec 32 := Scalar.addi c0_i32_222 v326
  v327.toNat
def k0_dev22 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_225 : BitVec 32 := 7#32
  let v334 : BitVec 32 := Scalar.addi v2 c7_i32_225
  let c16_i32_226 : BitVec 32 := 16#32
  let c0_i32_227 : BitVec 32 := 0#32
  let v335 : BitVec 1 := Scalar.cmpi .eq c16_i32_226 c0_i32_227
  let c1_i32_228 : BitVec 32 := 1#32
  let v336 : BitVec 32 := Scalar.select v335 c1_i32_228 c16_i32_226
  let v337 : BitVec 32 := Scalar.remsi v334 v336
  let c0_i32_230 : BitVec 32 := 0#32
  let v339 : BitVec 1 := Scalar.cmpi .slt v337 c0_i32_230
  let c0_i32_231 : BitVec 32 := 0#32
  let v340 : BitVec 1 := Scalar.cmpi .slt v336 c0_i32_231
  let v341 : BitVec 1 := Scalar.xori v339 v340
  let c0_i32_229 : BitVec 32 := 0#32
  let v338 : BitVec 1 := Scalar.cmpi .ne v337 c0_i32_229
  let v342 : BitVec 1 := Scalar.andi v341 v338
  let v343 : BitVec 32 := Scalar.addi v337 v336
  let v344 : BitVec 32 := Scalar.select v342 v343 v337
  let c1_i32_235 : BitVec 32 := 1#32
  let v345 : BitVec 32 := Scalar.muli v344 c1_i32_235
  let v346 : BitVec 32 := Scalar.addi c0_i32_236 v345
  v346.toNat
def k0_dev23 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_239 : BitVec 32 := 8#32
  let v353 : BitVec 32 := Scalar.addi v2 c8_i32_239
  let c16_i32_240 : BitVec 32 := 16#32
  let c0_i32_241 : BitVec 32 := 0#32
  let v354 : BitVec 1 := Scalar.cmpi .eq c16_i32_240 c0_i32_241
  let c1_i32_242 : BitVec 32 := 1#32
  let v355 : BitVec 32 := Scalar.select v354 c1_i32_242 c16_i32_240
  let v356 : BitVec 32 := Scalar.remsi v353 v355
  let c0_i32_244 : BitVec 32 := 0#32
  let v358 : BitVec 1 := Scalar.cmpi .slt v356 c0_i32_244
  let c0_i32_245 : BitVec 32 := 0#32
  let v359 : BitVec 1 := Scalar.cmpi .slt v355 c0_i32_245
  let v360 : BitVec 1 := Scalar.xori v358 v359
  let c0_i32_243 : BitVec 32 := 0#32
  let v357 : BitVec 1 := Scalar.cmpi .ne v356 c0_i32_243
  let v361 : BitVec 1 := Scalar.andi v360 v357
  let v362 : BitVec 32 := Scalar.addi v356 v355
  let v363 : BitVec 32 := Scalar.select v361 v362 v356
  let c1_i32_249 : BitVec 32 := 1#32
  let v364 : BitVec 32 := Scalar.muli v363 c1_i32_249
  let v365 : BitVec 32 := Scalar.addi c0_i32_250 v364
  v365.toNat
def k0_dev24 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_253 : BitVec 32 := 9#32
  let v372 : BitVec 32 := Scalar.addi v2 c9_i32_253
  let c16_i32_254 : BitVec 32 := 16#32
  let c0_i32_255 : BitVec 32 := 0#32
  let v373 : BitVec 1 := Scalar.cmpi .eq c16_i32_254 c0_i32_255
  let c1_i32_256 : BitVec 32 := 1#32
  let v374 : BitVec 32 := Scalar.select v373 c1_i32_256 c16_i32_254
  let v375 : BitVec 32 := Scalar.remsi v372 v374
  let c0_i32_258 : BitVec 32 := 0#32
  let v377 : BitVec 1 := Scalar.cmpi .slt v375 c0_i32_258
  let c0_i32_259 : BitVec 32 := 0#32
  let v378 : BitVec 1 := Scalar.cmpi .slt v374 c0_i32_259
  let v379 : BitVec 1 := Scalar.xori v377 v378
  let c0_i32_257 : BitVec 32 := 0#32
  let v376 : BitVec 1 := Scalar.cmpi .ne v375 c0_i32_257
  let v380 : BitVec 1 := Scalar.andi v379 v376
  let v381 : BitVec 32 := Scalar.addi v375 v374
  let v382 : BitVec 32 := Scalar.select v380 v381 v375
  let c1_i32_263 : BitVec 32 := 1#32
  let v383 : BitVec 32 := Scalar.muli v382 c1_i32_263
  let v384 : BitVec 32 := Scalar.addi c0_i32_264 v383
  v384.toNat
def k0_dev25 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_267 : BitVec 32 := 10#32
  let v391 : BitVec 32 := Scalar.addi v2 c10_i32_267
  let c16_i32_268 : BitVec 32 := 16#32
  let c0_i32_269 : BitVec 32 := 0#32
  let v392 : BitVec 1 := Scalar.cmpi .eq c16_i32_268 c0_i32_269
  let c1_i32_270 : BitVec 32 := 1#32
  let v393 : BitVec 32 := Scalar.select v392 c1_i32_270 c16_i32_268
  let v394 : BitVec 32 := Scalar.remsi v391 v393
  let c0_i32_272 : BitVec 32 := 0#32
  let v396 : BitVec 1 := Scalar.cmpi .slt v394 c0_i32_272
  let c0_i32_273 : BitVec 32 := 0#32
  let v397 : BitVec 1 := Scalar.cmpi .slt v393 c0_i32_273
  let v398 : BitVec 1 := Scalar.xori v396 v397
  let c0_i32_271 : BitVec 32 := 0#32
  let v395 : BitVec 1 := Scalar.cmpi .ne v394 c0_i32_271
  let v399 : BitVec 1 := Scalar.andi v398 v395
  let v400 : BitVec 32 := Scalar.addi v394 v393
  let v401 : BitVec 32 := Scalar.select v399 v400 v394
  let c1_i32_277 : BitVec 32 := 1#32
  let v402 : BitVec 32 := Scalar.muli v401 c1_i32_277
  let v403 : BitVec 32 := Scalar.addi c0_i32_278 v402
  v403.toNat
def k0_dev26 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_281 : BitVec 32 := 11#32
  let v410 : BitVec 32 := Scalar.addi v2 c11_i32_281
  let c16_i32_282 : BitVec 32 := 16#32
  let c0_i32_283 : BitVec 32 := 0#32
  let v411 : BitVec 1 := Scalar.cmpi .eq c16_i32_282 c0_i32_283
  let c1_i32_284 : BitVec 32 := 1#32
  let v412 : BitVec 32 := Scalar.select v411 c1_i32_284 c16_i32_282
  let v413 : BitVec 32 := Scalar.remsi v410 v412
  let c0_i32_286 : BitVec 32 := 0#32
  let v415 : BitVec 1 := Scalar.cmpi .slt v413 c0_i32_286
  let c0_i32_287 : BitVec 32 := 0#32
  let v416 : BitVec 1 := Scalar.cmpi .slt v412 c0_i32_287
  let v417 : BitVec 1 := Scalar.xori v415 v416
  let c0_i32_285 : BitVec 32 := 0#32
  let v414 : BitVec 1 := Scalar.cmpi .ne v413 c0_i32_285
  let v418 : BitVec 1 := Scalar.andi v417 v414
  let v419 : BitVec 32 := Scalar.addi v413 v412
  let v420 : BitVec 32 := Scalar.select v418 v419 v413
  let c1_i32_291 : BitVec 32 := 1#32
  let v421 : BitVec 32 := Scalar.muli v420 c1_i32_291
  let v422 : BitVec 32 := Scalar.addi c0_i32_292 v421
  v422.toNat
def k0_dev27 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_295 : BitVec 32 := 12#32
  let v429 : BitVec 32 := Scalar.addi v2 c12_i32_295
  let c16_i32_296 : BitVec 32 := 16#32
  let c0_i32_297 : BitVec 32 := 0#32
  let v430 : BitVec 1 := Scalar.cmpi .eq c16_i32_296 c0_i32_297
  let c1_i32_298 : BitVec 32 := 1#32
  let v431 : BitVec 32 := Scalar.select v430 c1_i32_298 c16_i32_296
  let v432 : BitVec 32 := Scalar.remsi v429 v431
  let c0_i32_300 : BitVec 32 := 0#32
  let v434 : BitVec 1 := Scalar.cmpi .slt v432 c0_i32_300
  let c0_i32_301 : BitVec 32 := 0#32
  let v435 : BitVec 1 := Scalar.cmpi .slt v431 c0_i32_301
  let v436 : BitVec 1 := Scalar.xori v434 v435
  let c0_i32_299 : BitVec 32 := 0#32
  let v433 : BitVec 1 := Scalar.cmpi .ne v432 c0_i32_299
  let v437 : BitVec 1 := Scalar.andi v436 v433
  let v438 : BitVec 32 := Scalar.addi v432 v431
  let v439 : BitVec 32 := Scalar.select v437 v438 v432
  let c1_i32_305 : BitVec 32 := 1#32
  let v440 : BitVec 32 := Scalar.muli v439 c1_i32_305
  let v441 : BitVec 32 := Scalar.addi c0_i32_306 v440
  v441.toNat
def k0_dev28 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_309 : BitVec 32 := 13#32
  let v448 : BitVec 32 := Scalar.addi v2 c13_i32_309
  let c16_i32_310 : BitVec 32 := 16#32
  let c0_i32_311 : BitVec 32 := 0#32
  let v449 : BitVec 1 := Scalar.cmpi .eq c16_i32_310 c0_i32_311
  let c1_i32_312 : BitVec 32 := 1#32
  let v450 : BitVec 32 := Scalar.select v449 c1_i32_312 c16_i32_310
  let v451 : BitVec 32 := Scalar.remsi v448 v450
  let c0_i32_314 : BitVec 32 := 0#32
  let v453 : BitVec 1 := Scalar.cmpi .slt v451 c0_i32_314
  let c0_i32_315 : BitVec 32 := 0#32
  let v454 : BitVec 1 := Scalar.cmpi .slt v450 c0_i32_315
  let v455 : BitVec 1 := Scalar.xori v453 v454
  let c0_i32_313 : BitVec 32 := 0#32
  let v452 : BitVec 1 := Scalar.cmpi .ne v451 c0_i32_313
  let v456 : BitVec 1 := Scalar.andi v455 v452
  let v457 : BitVec 32 := Scalar.addi v451 v450
  let v458 : BitVec 32 := Scalar.select v456 v457 v451
  let c1_i32_319 : BitVec 32 := 1#32
  let v459 : BitVec 32 := Scalar.muli v458 c1_i32_319
  let v460 : BitVec 32 := Scalar.addi c0_i32_320 v459
  v460.toNat
def k0_dev29 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_323 : BitVec 32 := 14#32
  let v467 : BitVec 32 := Scalar.addi v2 c14_i32_323
  let c16_i32_324 : BitVec 32 := 16#32
  let c0_i32_325 : BitVec 32 := 0#32
  let v468 : BitVec 1 := Scalar.cmpi .eq c16_i32_324 c0_i32_325
  let c1_i32_326 : BitVec 32 := 1#32
  let v469 : BitVec 32 := Scalar.select v468 c1_i32_326 c16_i32_324
  let v470 : BitVec 32 := Scalar.remsi v467 v469
  let c0_i32_328 : BitVec 32 := 0#32
  let v472 : BitVec 1 := Scalar.cmpi .slt v470 c0_i32_328
  let c0_i32_329 : BitVec 32 := 0#32
  let v473 : BitVec 1 := Scalar.cmpi .slt v469 c0_i32_329
  let v474 : BitVec 1 := Scalar.xori v472 v473
  let c0_i32_327 : BitVec 32 := 0#32
  let v471 : BitVec 1 := Scalar.cmpi .ne v470 c0_i32_327
  let v475 : BitVec 1 := Scalar.andi v474 v471
  let v476 : BitVec 32 := Scalar.addi v470 v469
  let v477 : BitVec 32 := Scalar.select v475 v476 v470
  let c1_i32_333 : BitVec 32 := 1#32
  let v478 : BitVec 32 := Scalar.muli v477 c1_i32_333
  let v479 : BitVec 32 := Scalar.addi c0_i32_334 v478
  v479.toNat
def k0_dev30 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_337 : BitVec 32 := 15#32
  let v486 : BitVec 32 := Scalar.addi v2 c15_i32_337
  let c16_i32_338 : BitVec 32 := 16#32
  let c0_i32_339 : BitVec 32 := 0#32
  let v487 : BitVec 1 := Scalar.cmpi .eq c16_i32_338 c0_i32_339
  let c1_i32_340 : BitVec 32 := 1#32
  let v488 : BitVec 32 := Scalar.select v487 c1_i32_340 c16_i32_338
  let v489 : BitVec 32 := Scalar.remsi v486 v488
  let c0_i32_342 : BitVec 32 := 0#32
  let v491 : BitVec 1 := Scalar.cmpi .slt v489 c0_i32_342
  let c0_i32_343 : BitVec 32 := 0#32
  let v492 : BitVec 1 := Scalar.cmpi .slt v488 c0_i32_343
  let v493 : BitVec 1 := Scalar.xori v491 v492
  let c0_i32_341 : BitVec 32 := 0#32
  let v490 : BitVec 1 := Scalar.cmpi .ne v489 c0_i32_341
  let v494 : BitVec 1 := Scalar.andi v493 v490
  let v495 : BitVec 32 := Scalar.addi v489 v488
  let v496 : BitVec 32 := Scalar.select v494 v495 v489
  let c1_i32_347 : BitVec 32 := 1#32
  let v497 : BitVec 32 := Scalar.muli v496 c1_i32_347
  let v498 : BitVec 32 := Scalar.addi c0_i32_348 v497
  v498.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Proto.lean ====
/-
# The exchange's protocol: peers, buffers, semaphore cells, and the one round each cell runs

Sixteen devices. Each signals every other device's barrier semaphore, reduces its own block to a pair of rows
(maximum, index of the maximum), waits for fifteen signals, copies the pair of rows into one slot of every other
device's receive buffer, waits for its fifteen copies to leave and for the fifteen that come in, and reduces the
sixteen pairs of rows.

A DISTANCE `d : Fin 15` stands for the device `d + 1` places further round (`pe`); the device that many places
back is the one at the reversed distance (`so`). Copy `d` of a device goes to slot `d` of the device at distance
`d`, so slot `d` of a device is filled by the one `d + 1` places back. A device's signal at distance `d` tells the
device there that the slot of the reversed distance is free to be written: that slot is handed over with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.Transfers
public import Idealize.ShloMosaic.Lib.ValueIdx
public import Idealize.ShloMosaic.Lib.SparseCore.ProtocolKit

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Transfers (shareTokN shareDrop shareTok)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by distances) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices' distances -/

set_option backward.proofsInPublic true in
/-- The device `d + 1` places further round. -/
def pe (c : Dev nD) (d : Fin 15) : Dev nD := ⟨(c.val + (d.val + 1)) % 16, Nat.mod_lt _ (by decide)⟩

/-- The device `d + 1` places back: the one whose distance `d` leads here. -/
abbrev so (c : Dev nD) (d : Fin 15) : Dev nD := pe c d.rev

theorem pe_val (c : Dev nD) (d : Fin 15) : (pe c d).val = (c.val + (d.val + 1)) % 16 := rfl

/-- Going `d + 1` places further and then `d + 1` places back leads home. -/
theorem so_pe (c : Dev nD) (d : Fin 15) : pe (pe c d) d.rev = c := by
  have hc : c.val < 16 := c.isLt
  have hd := d.isLt
  refine Fin.ext ?_
  rw [pe_val, pe_val, Fin.val_rev]
  omega

theorem pe_so (c : Dev nD) (d : Fin 15) : pe (pe c d.rev) d = c := by
  conv_rhs => rw [← so_pe c d.rev]
  rw [Fin.rev_rev]

/-- Moving every device `d + 1` places is a permutation of the devices. -/
def peE (d : Fin 15) : Dev nD ≃ Dev nD := ⟨fun c => pe c d, fun c => pe c d.rev, fun c => so_pe c d, fun c => pe_so c d⟩

/-! ## The buffers -/

abbrev xM : Memref sig .tc .vmem S2048x1024 .f32 := Memref.whole cc0_stg0_0
abbrev oM : Memref sig .tc .vmem S2x1024 .f32 := Memref.whole cc0_stg1_0
abbrev pM : Memref sig .tc .vmem S2x1024 .f32 := Memref.whole cc0_scratch0
abbrev cM : Memref sig .tc .vmem S15x2x1024 .f32 := Memref.whole cc0_scratch1

theorem slot_inb (d : Fin 15) : ∀ a, (![d.val, 0, 0] : Fin 3 → Nat) a + S1x2x1024.size a ≤ S15x2x1024.size a := by
  revert d; decide
theorem sem_inb (d : Fin 15) : ∀ a, (![d.val] : Fin 1 → Nat) a + S1.size a ≤ S15.size a := by
  revert d; decide

/-- Slot `d` of the receive buffer, as a pair of rows. -/
abbrev slotM (d : Fin 15) : Memref sig .tc .vmem S2x1024 .f32 :=
  (cM.slice (Rect.unit (s := S15x2x1024) ![d.val, 0, 0] S1x2x1024.size (slot_inb d)) (fun _ => rfl)).squeeze S2x1024 squeezes_S1x2x1024_S2x1024

/-! ## The semaphores and their cells -/

/-- The barrier semaphore, which no launch scopes; the send and the receive semaphore of each distance. -/
abbrev barS : Sem sig := (SemArray.scalar (sig.barrier 0 rfl) : Sems sig S_).sem
abbrev sendS (d : Fin 15) : DmaSems sig S_ := (cc0_scratch2.slice (Rect.unit (s := S15) ![d.val] S1.size (sem_inb d))).squeeze S_ squeezes_S1_S_
abbrev recvS (d : Fin 15) : DmaSems sig S_ := (cc0_scratch3.slice (Rect.unit (s := S15) ![d.val] S1.size (sem_inb d))).squeeze S_ squeezes_S1_S_

abbrev barCell (c : Dev nD) : GSem nD τ sig := ((c : Thread nD τ), .reg barS)
abbrev sendCell (c : Dev nD) (d : Fin 15) : GSem nD τ sig := ((c : Thread nD τ), .dma (sendS d).sem)
abbrev recvCell (c : Dev nD) (d : Fin 15) : GSem nD τ sig := ((c : Thread nD τ), .dma (recvS d).sem)

/-- A device's own transfer cells: sends, then receives, one of each per distance; -/
abbrev OK : Type := Fin 15 ⊕ Fin 15
/-- all the cells of a device: the barrier's first. -/
abbrev CK : Type := Unit ⊕ OK

abbrev osem : OK → SemLoc sig := Sum.elim (fun d => .dma (sendS d).sem) (fun d => .dma (recvS d).sem)
abbrev csem : CK → SemLoc sig := Sum.elim (fun _ => .reg barS) osem
abbrev kcell (ck : Dev nD × CK) : GSem nD τ sig := ((ck.1 : Thread nD τ), csem ck.2)

theorem osem_inj : Function.Injective osem := by decide +kernel
theorem csem_inj : Function.Injective csem := by decide +kernel

theorem kcell_inj : Function.Injective kcell := by
  rintro ⟨c, k⟩ ⟨c', k'⟩ h
  have h1 : c = c' := by
    have := congrArg (fun g : GSem nD τ sig => g.1.1) h
    exact this
  have h2 : k = k' := csem_inj (congrArg (fun g : GSem nD τ sig => g.2) h)
  rw [h1, h2]

/-- The credit one pair of rows is worth. -/
abbrev N : ℕ := (pM : Memref sig .tc .vmem S2x1024 .f32).view.dmaCredit
theorem slot_credit (d : Fin 15) : (slotM d).view.dmaCredit = N := rfl
theorem N_pos : 0 < N := View.dmaCredit_pos _ (by decide)

/-- A semaphore's place among a device's cells, if it has one. -/
def kind (g : GSem nD τ sig) : Option CK := if g.1.2 = .tc then Function.partialInv csem g.2 else none

theorem kind_kcell (c : Dev nD) (k : CK) : kind (kcell (c, k)) = some k :=
  (if_pos rfl).trans (Function.partialInv_left csem_inj k)

/-! ## Contents -/

/-- A pair of rows made from two single rows. -/
def rows2 {α : Type} (a b : S1x1024.Idx → α) : S2x1024.Idx → α :=
  fun i => if (i 0).val = 0 then a (ix2 (0 : Fin 1) (i 1)) else b (ix2 (0 : Fin 1) (i 1))

/-- Device `c`'s block of the argument, as its kernel reads it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s number as the kernel computes it. -/
abbrev wid (c : Dev nD) : BitVec 32 := Scalar.remsi (Scalar.divsi (Dev.word c) 1#32) 16#32

/-- The pair of rows device `c` sends: its block's column maxima, and the rows they are first found at. -/
def partC (c : Dev nD) : (cc0_scratch0 : Ref sig .tc).ty.Contents (Elt F) :=
  rows2 (α := Elt F .f32) (k0_pay3 (xstg m ρ c)) (k0_pay4 (wid c) (xstg m ρ c))

/-- Device `c`'s pair of rows held at share `q`. -/
def pPts (c : Dev nD) (q : PosShare TreeShare) : sProp 𝕄 :=
  (pM : Memref sig .tc .vmem S2x1024 .f32).view.loc (c : Thread nD τ) ↦[(pM : Memref sig .tc .vmem S2x1024 .f32).view.set]{q} partC m ρ c

/-- Slot `d` of device `c`'s receive buffer, whatever it holds. -/
def slotAny (c : Dev nD) (d : Fin 15) : sProp 𝕄 :=
  iprop(∃ f : Buf (Elt F) ((slotM d).view.loc (c : Thread nD τ)), (slotM d).view.loc (c : Thread nD τ) ↦[(slotM d).view.set]{fullShare} f)

/-- Slot `d` of device `c`'s receive buffer holding the pair of rows of the device that fills it. -/
def slotFull (c : Dev nD) (d : Fin 15) : sProp 𝕄 :=
  owns (c : Thread nD τ) (slotM d) fullShare (partC m ρ (so c d))

omit [FloatOps F] in
instance slotAny_storable (c : Dev nD) (d : Fin 15) : BI.Storable (upEmb : UEmb _ 𝕄) (slotAny (F := F) c d) := by
  unfold slotAny; infer_instance
instance slotFull_storable (c : Dev nD) (d : Fin 15) : BI.Storable (upEmb : UEmb _ 𝕄) (slotFull (F := F) m ρ c d) := by
  unfold slotFull; infer_instance
instance pPts_storable (c : Dev nD) (q : PosShare TreeShare) : BI.Storable (upEmb : UEmb _ 𝕄) (pPts (F := F) m ρ c q) := by
  unfold pPts; infer_instance

/-! ## The schedule: one round, round 0 -/

/-- The duties of a cell: the barrier's are paid by the fifteen others, a transfer's by its one copy. -/
def dutiesK : CK → Finset (Fin 15) := Sum.elim (fun _ => Finset.univ) (fun _ => {0})
/-- The units each duty adds. -/
def amountK : CK → ℕ := Sum.elim (fun _ => 1) (fun _ => N)
/-- What each duty hands the waiting device: the barrier's duty `e` the slot `e` of the device at distance `e`;
    a send's the lent share of the pair of rows; a receive's the filled slot. -/
def payK (c : Dev nD) : CK → Fin 15 → sProp 𝕄 :=
  Sum.elim (fun _ e => slotAny (pe c e) e)
    (Sum.elim (fun d _ => pPts m ρ c (shareTokN fullShare d.val)) (fun d _ => slotFull m ρ c d))

theorem amountK_pos (k : CK) : 0 < amountK k := by
  rcases k with _ | _
  · exact Nat.one_pos
  · exact N_pos

instance payK_storable (c : Dev nD) (k : CK) (e : Fin 15) : BI.Storable (upEmb : UEmb _ 𝕄) (payK (F := F) m ρ c k e) := by
  rcases k with _ | _ | _
  · exact slotAny_storable _ _
  · exact pPts_storable m ρ _ _
  · exact slotFull_storable m ρ _ _

def ringRd : Rounds.Schedule (GSem nD τ sig) (Fin 15) 𝕄 where
  duties g r := if r = 0 then ((kind g).map dutiesK).getD ∅ else ∅
  unitless _ := False
  amount g _ _ := ((kind g).map amountK).getD 1
  payload g _ e := ((kind g).map fun k => payK m ρ g.1.1 k e).getD iprop(emp)
  amount_pos g _ _ _ := by
    rcases kind g with _ | k
    · exact Nat.one_pos
    · exact amountK_pos k

instance ringRd_payload_storable (g : GSem nD τ sig) (r : ℕ) (d : Fin 15) :
    BI.Storable (upEmb : UEmb _ 𝕄) ((ringRd (F := F) m ρ).payload g r d) := by
  show BI.Storable upEmb (((kind g).map fun k => payK m ρ g.1.1 k d).getD iprop(emp))
  rcases kind g with _ | k
  · show BI.Storable upEmb (iprop(emp) : sProp 𝕄); infer_instance
  · exact payK_storable m ρ g.1.1 k d

theorem duties_k (c : Dev nD) (k : CK) : (ringRd (F := F) m ρ).duties (kcell (c, k)) 0 = dutiesK k := by
  dsimp only [ringRd]; rw [if_pos rfl, kind_kcell]; rfl
theorem amount_k (c : Dev nD) (k : CK) (d : Fin 15) : (ringRd (F := F) m ρ).amount (kcell (c, k)) 0 d = amountK k := by
  dsimp only [ringRd]; rw [kind_kcell]; rfl
theorem payload_k (c : Dev nD) (k : CK) (d : Fin 15) : (ringRd (F := F) m ρ).payload (kcell (c, k)) 0 d = payK m ρ c k d := by
  dsimp only [ringRd]; rw [kind_kcell]; rfl
theorem duties_later (g : GSem nD τ sig) : ∀ r, 1 ≤ r → (ringRd (F := F) m ρ).duties g r = ∅ :=
  fun r hr => by dsimp only [ringRd]; rw [if_neg (by omega)]

/-- What a whole round of a cell adds. -/
def expectK : CK → ℕ := Sum.elim (fun _ => 15) (fun _ => N)

theorem expect_k (c : Dev nD) (k : CK) : (ringRd (F := F) m ρ).expect (kcell (c, k)) 0 = expectK k := by
  unfold Schedule.expect Schedule.amountOf
  rw [duties_k, Finset.sum_congr rfl fun d _ => amount_k m ρ c k d]
  rcases k with _ | _
  · show ∑ _d ∈ (Finset.univ : Finset (Fin 15)), 1 = 15
    rw [Finset.sum_const, Finset.card_univ, Fintype.card_fin]; rfl
  · show ∑ _d ∈ ({0} : Finset (Fin 15)), N = N
    rw [Finset.sum_singleton]

/-- The rest of a round none of whose duties has been taken: all its payloads. -/
theorem rest_k (c : Dev nD) (k : CK) :
    bigSep ((ringRd (F := F) m ρ).duties (kcell (c, k)) 0 \ ∅) (fun d => (ringRd (F := F) m ρ).payload (kcell (c, k)) 0 d)
      = bigSep (dutiesK k) (fun d => payK m ρ c k d) := by
  rw [Finset.sdiff_empty, duties_k]
  congr 1
  funext d
  exact payload_k m ρ c k d

/-! ### The same at each of the three sorts of cell -/

theorem mem_bar (c : Dev nD) (e : Fin 15) : e ∈ (ringRd (F := F) m ρ).duties (barCell c) 0 :=
  (Finset.ext_iff.mp (duties_k m ρ c (.inl ())) e).mpr (Finset.mem_univ e)
theorem mem_send (c : Dev nD) (d : Fin 15) : (0 : Fin 15) ∈ (ringRd (F := F) m ρ).duties (sendCell c d) 0 :=
  (Finset.ext_iff.mp (duties_k m ρ c (.inr (.inl d))) 0).mpr (Finset.mem_singleton_self _)
theorem mem_recv (c : Dev nD) (d : Fin 15) : (0 : Fin 15) ∈ (ringRd (F := F) m ρ).duties (recvCell c d) 0 :=
  (Finset.ext_iff.mp (duties_k m ρ c (.inr (.inr d))) 0).mpr (Finset.mem_singleton_self _)
theorem amount_bar (c : Dev nD) (e : Fin 15) : (ringRd (F := F) m ρ).amount (barCell c) 0 e = 1 := amount_k m ρ c (.inl ()) e
theorem amount_send (c : Dev nD) (d : Fin 15) : (ringRd (F := F) m ρ).amount (sendCell c d) 0 0 = N := amount_k m ρ c (.inr (.inl d)) 0
theorem amount_recv (c : Dev nD) (d : Fin 15) : (ringRd (F := F) m ρ).amount (recvCell c d) 0 0 = N := amount_k m ρ c (.inr (.inr d)) 0
theorem pay_bar (c : Dev nD) (e : Fin 15) : (ringRd (F := F) m ρ).payload (barCell c) 0 e = slotAny (pe c e) e := payload_k m ρ c (.inl ()) e
theorem pay_send (c : Dev nD) (d : Fin 15) : (ringRd (F := F) m ρ).payload (sendCell c d) 0 0 = pPts m ρ c (shareTokN fullShare d.val) :=
  payload_k m ρ c (.inr (.inl d)) 0
theorem pay_recv (c : Dev nD) (d : Fin 15) : (ringRd (F := F) m ρ).payload (recvCell c d) 0 0 = slotFull m ρ c d :=
  payload_k m ρ c (.inr (.inr d)) 0
/-- The whole of a barrier cell's round: every other device's slot for this one. -/
theorem rest_bar (c : Dev nD) :
    bigSep ((ringRd (F := F) m ρ).duties (barCell c) 0 \ ∅) (fun d => (ringRd (F := F) m ρ).payload (barCell c) 0 d)
      = bigSep Finset.univ (fun d => slotAny (pe c d) d) := rest_k m ρ c (.inl ())
/-- The whole of a transfer cell's round: its one payload. -/
theorem rest_own (c : Dev nD) (o : OK) :
    bigSep ((ringRd (F := F) m ρ).duties ((c : Thread nD τ), osem o) 0 \ ∅) (fun d => (ringRd (F := F) m ρ).payload ((c : Thread nD τ), osem o) 0 d)
      = payK m ρ c (.inr o) 0 := by
  refine (rest_k m ρ c (.inr o)).trans ?_
  show bigSep ({0} : Finset (Fin 15)) (fun d => payK m ρ c (.inr o) d) = _
  rw [bigSep_singleton]

/-! ## What each device owes; the levels -/

/-- The receive credits of the copies from distance `k` on; -/
def OR (c : Dev nD) (k : ℕ) : CellTallies nD τ sig Unit := ∑ j ∈ finFrom 15 k, tallyAt (recvCell (pe c j) j) () N
/-- the barrier units of the signals from distance `k` on; -/
def OB (c : Dev nD) (k : ℕ) : CellTallies nD τ sig Unit := ∑ j ∈ finFrom 15 k, tallyAt (barCell (pe c j)) () 1
/-- all of both, at launch. -/
def O₀ (c : Dev nD) : CellTallies nD τ sig Unit := OR c 0 + OB c 0

theorem OR_succ (c : Dev nD) {k : ℕ} (hk : k < 15) : OR c k = OR c (k + 1) + tallyAt (recvCell (pe c ⟨k, hk⟩) ⟨k, hk⟩) () N :=
  sum_finFrom_succ hk _
theorem OB_succ (c : Dev nD) {k : ℕ} (hk : k < 15) : OB c k = OB c (k + 1) + tallyAt (barCell (pe c ⟨k, hk⟩)) () 1 :=
  sum_finFrom_succ hk _
theorem OR_end (c : Dev nD) : OR c 15 = 0 := sum_finFrom_self _
theorem OB_end (c : Dev nD) : OB c 15 = 0 := sum_finFrom_self _

def L (g : GSem nD τ sig) : Finset Unit := if g.1.2 = .tc then {()} else ∅
/-- barrier cells at 1, receive cells at 2, everything else (staging, send) at 0. -/
def levK : CK → ℕ := Sum.elim (fun _ => 1) (Sum.elim (fun _ => 0) (fun _ => 2))
def lv (g : GSem nD τ sig) (_ : Unit) : ℕ := ((kind g).map levK).getD 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = levK k := by unfold lv; rw [kind_kcell]; rfl

/-- A sum of single tallies is positive only at one of its cells. -/
theorem sum_tally_pos {S : Finset (Fin 15)} {g : GSem nD τ sig} {u : Unit} {G : Fin 15 → GSem nD τ sig} {n : ℕ}
    (h : 0 < (∑ j ∈ S, tallyAt (Ix := Unit) (G j) () n) g u) : ∃ j, g = G j := by
  by_contra hn
  rw [not_exists] at hn
  rw [Finset.sum_apply, Finsupp.finset_sum_apply, Finset.sum_eq_zero] at h
  · exact Nat.lt_irrefl 0 h
  · intro j _
    rw [tallyAt_apply, if_neg (fun h' => hn j h'.1)]

theorem OR_pos {c : Dev nD} {k : ℕ} {g : GSem nD τ sig} {u : Unit} (h : 0 < OR c k g u) : ∃ j, g = recvCell (pe c j) j :=
  sum_tally_pos h

theorem O₀_pos {c : Dev nD} {g : GSem nD τ sig} {u : Unit} (h : 0 < O₀ c g u) :
    (∃ j, g = recvCell (pe c j) j) ∨ ∃ j, g = barCell (pe c j) := by
  unfold O₀ at h
  rw [Pi.add_apply, Finsupp.add_apply] at h
  rcases Nat.eq_zero_or_pos (OR c 0 g u) with h0 | h0
  · rw [h0, Nat.zero_add] at h; exact .inr (sum_tally_pos h)
  · exact .inl (OR_pos h0)

omit [FloatOps F] in
/-- A semaphore that is none of the cells is waited on below everything the device owes at launch. -/
theorem mayWait_stage (c : Dev nD) (q : SemLoc sig) (hq : ∀ k, csem k ≠ q) (O : CellTallies nD τ sig Unit) (hO : O = O₀ c ∨ O = 0) :
    (levAts L lv : sProp 𝕄) ⊢ MayWait (c : Thread nD τ) q () O := by
  have hlv : lv ((c : Thread nD τ), q) () = 0 := by
    unfold lv
    have : kind ((c : Thread nD τ), q) = none := by
      unfold kind
      rw [if_pos rfl]
      unfold Function.partialInv
      exact dif_neg (fun ⟨a, h⟩ => hq a h)
    rw [this]; rfl
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq hlv)
      (fun g u hg => by
        rcases O₀_pos hg with ⟨j, rfl⟩ | ⟨j, rfl⟩
        · rw [show recvCell (pe c j) j = kcell (pe c j, .inr (.inr j)) from rfl, lv_k]; exact Nat.two_pos
        · rw [show barCell (pe c j) = kcell (pe c j, .inl ()) from rfl, lv_k]; exact Nat.one_pos)
  · rw [MayWait_zero]; iintro -; iempintro

omit [FloatOps F] in
/-- At its barrier wait a device owes receive credits only, which stand above barrier cells. -/
theorem mayWait_bar (c : Dev nD) (k : ℕ) :
    (levAts L lv : sProp 𝕄) ⊢ MayWait (c : Thread nD τ) (.reg barS) () (OR c k) :=
  MayOwe.of_cut (L := L) (lev := lv) 1 (fun p hp => by rw [Finset.mem_singleton.mp hp, L_tc]; exact Finset.mem_singleton_self _)
    (fun g u hg => by obtain ⟨j, rfl⟩ := OR_pos hg; exact Finset.mem_singleton_self _)
    (fun p hp => by
      rw [Finset.mem_singleton.mp hp, show ((c : Thread nD τ), SemLoc.reg barS) = kcell (c, .inl ()) from rfl, lv_k]; exact le_refl 1)
    (fun g u hg => by
      obtain ⟨j, rfl⟩ := OR_pos hg
      rw [show recvCell (pe c j) j = kcell (pe c j, .inr (.inr j)) from rfl, lv_k]; exact Nat.one_lt_two)

end Cert.KProof

end

end
-- ==== Proof.Steps.lean ====
/-
# The exchange's three runs of fifteen like steps, each step stated once

The body signals fifteen devices, starts fifteen copies and waits for fifteen pairs of transfers. Each of the three
runs has a state indexed by how many of its steps are done (`Sig`, `Snd`, `Wtg`) and one lemma that takes step `k`
of it from state `k` to state `k + 1`.
-/
module

public import proofs.«01_k».proof.Proof.Proto

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Transfers (shareTokN shareDrop shareTok)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names `K` the launch gave them, and that every cell has reached round 0. -/
def records (K : Dev nD × CK → ℕ) : sProp 𝕄 :=
  bigSep Finset.univ fun ck : Dev nD × CK => iprop(cellInv ER (ringRd m ρ) (K ck) (kcell ck) ∗ reached ER (kcell ck) 0)

instance records_persistent (K : Dev nD × CK → ℕ) : BI.Persistent (records (F := F) m ρ K) := by
  unfold records; infer_instance

/-- One cell's invariant and mark out of all of them. -/
theorem records_elim (K : Dev nD × CK → ℕ) (c : Dev nD) (k : CK) :
    records (F := F) m ρ K ⊢ iprop(cellInv ER (ringRd m ρ) (K (c, k)) (kcell (c, k)) ∗ reached ER (kcell (c, k)) 0) := by
  unfold records
  exact bigSep_univ_elim (fun ck : Dev nD × CK => iprop(cellInv ER (ringRd m ρ) (K ck) (kcell ck) ∗ reached ER (kcell ck) 0)) (c, k)

/-- The same for a barrier, a transfer, a send and a receive cell. -/
theorem rec_bar (K : Dev nD × CK → ℕ) (c : Dev nD) :
    records (F := F) m ρ K ⊢ iprop(cellInv ER (ringRd m ρ) (K (c, .inl ())) (barCell c) ∗ reached ER (barCell c) 0) :=
  records_elim m ρ K c (.inl ())
theorem rec_own (K : Dev nD × CK → ℕ) (c : Dev nD) (o : OK) :
    records (F := F) m ρ K ⊢ iprop(cellInv ER (ringRd m ρ) (K (c, .inr o)) ((c : Thread nD τ), osem o) ∗ reached ER ((c : Thread nD τ), osem o) 0) :=
  records_elim m ρ K c (.inr o)
theorem rec_send (K : Dev nD × CK → ℕ) (c : Dev nD) (d : Fin 15) :
    records (F := F) m ρ K ⊢ iprop(cellInv ER (ringRd m ρ) (K (c, .inr (.inl d))) (sendCell c d) ∗ reached ER (sendCell c d) 0) :=
  records_elim m ρ K c (.inr (.inl d))
theorem rec_recv (K : Dev nD × CK → ℕ) (c : Dev nD) (d : Fin 15) :
    records (F := F) m ρ K ⊢ iprop(cellInv ER (ringRd m ρ) (K (c, .inr (.inr d))) (recvCell c d) ∗ reached ER (recvCell c d) 0) :=
  records_elim m ρ K c (.inr (.inr d))

section Steps

variable (K : Dev nD × CK → ℕ) (c : Dev nD)

/-! ## The signals -/

/-- The first `k` signals sent: the units and credits still owed, and for each signal to come the duty it pays and
    the slot it hands over. -/
def Sig (k : ℕ) (W : Waits sig Unit) : sProp 𝕄 :=
  iprop(owes (c : Thread nD τ) (OR c 0 + OB c k) W
    ∗ bigSep (finFrom 15 k) fun d => iprop(dutyTok ER (barCell (pe c d)) 0 d.rev ∗ slotAny c d.rev))

/-- Signal `k`, to the device at distance `k`. -/
theorem step_sig (k : ℕ) (hk : k < 15) (W : Waits sig Unit) (n : Dev nD) (hn : n = pe c ⟨k, hk⟩) {k' : ℕ} (hk' : k' = 1)
    {α : Type} {Q : α → sProp 𝕄} {κ : PUnit → Prog (TpuEff nD τ sig (Elt F) Λ₀ .tc) α} :
    iprop(records m ρ K ∗ Sig c k W)
      ⊢ iprop((Sig c (k + 1) W -∗ wp frame (wpE (defs₀ (F := F)) 𝒱₀ (c : Thread nD τ) none) Set.univ (κ ⟨⟩) Q)
          -∗ wp frame (wpE (defs₀ (F := F)) 𝒱₀ (c : Thread nD τ) none) Set.univ (.op (.semSignal (n : Thread nD τ) barS k') κ) Q) := by
  subst hn hk'
  unfold Sig
  rw [bigSep_finFrom_succ hk]
  iintro ⟨#HR, HO, ⟨Ht, Hs⟩, Hrest⟩ Hk
  ihave #Hr := (rec_bar m ρ K (pe c ⟨k, hk⟩)) $$ HR
  icases Hr with ⟨#HI, #Hm⟩
  iapply (Rounds.wp_signal 𝒱₀ ER (ringRd m ρ) (c : Thread nD τ) none (dst := (pe c ⟨k, hk⟩ : Thread nD τ)) (κ := K (pe c ⟨k, hk⟩, .inl ()))
      (r := 0) (d := (⟨k, hk⟩ : Fin 15).rev) (mem_bar m ρ _ _)
      (amount_bar m ρ _ _) () (OR c 0 + OB c (k + 1))
      (O₀ := OR c 0 + OB c k) (by rw [OB_succ c hk, add_assoc]) (W := W))
    $$ [HO Ht Hs]
  · isplitr; · iexact HI
    isplitl [HO]; · iexact HO
    isplitl [Ht]; · iexact Ht
    isplitl [Hs]
    · rw [pay_bar, so_pe]; iexact Hs
    iexact Hm
  iintro HO
  iapply Hk
  isplitl [HO] <;> iassumption

/-! ## The copies -/

/-- The first `k` copies started: the credits still owed; for each copy to come the share of the pair of rows it
    lends, the duties it pays and the slot it fills; for each copy started the credit to wait for its leaving. -/
def Snd (k : ℕ) (W : Waits sig Unit) : sProp 𝕄 :=
  iprop(owes (c : Thread nD τ) (OR c k) W
    ∗ bigSep (finFrom 15 k) (fun d => iprop(pPts m ρ c (shareTokN fullShare d.val) ∗ dutyTok ER (sendCell c d) 0 0
        ∗ dutyTok ER (recvCell (pe c d) d) 0 0 ∗ slotAny (pe c d) d))
    ∗ bigSep (finUpTo 15 k) fun d => cred (tallyAt (sendCell c d) () N))

/-- The pair of rows written into a slot is the slot filled. -/
theorem slot_filled (d : Fin 15) (f : Buf (Elt F) ((slotM d).view.loc (pe c d : Thread nD τ))) :
    ((slotM d).view.loc (pe c d : Thread nD τ) ↦[(slotM d).view.set]{fullShare}
        ((slotM d).view.write (Elt F) f ((pM : Memref sig .tc .vmem S2x1024 .f32).view.read (Elt F) (partC m ρ c)) Finset.univ) : sProp 𝕄)
      ⊢ slotFull m ρ (pe c d) d := by
  unfold slotFull
  have h : (pM : Memref sig .tc .vmem S2x1024 .f32).view.read (Elt F) (partC m ρ c) = partC m ρ (pe (pe c d) d.rev) := by
    rw [so_pe]; exact View.read_whole _ _
  rw [h]
  refine (owns_intro (pe c d : Thread nD τ) (slotM d) fullShare _).trans ?_
  rw [View.read_write_univ]

/-- Copy `k`, into slot `k` of the device at distance `k`. -/
theorem step_snd (k : ℕ) (hk : k < 15) (W : Waits sig Unit) (n : Dev nD) (hn : n = pe c ⟨k, hk⟩)
    {hsc : (slotM ⟨k, hk⟩ : Memref sig (Dev.tc n : Thread nD τ).2.kind .vmem S2x1024 .f32).view.ref.isScScratch = false}
    {hsrc : (pM : Memref sig .tc .vmem S2x1024 .f32).view.WordExact} {hdst : (slotM ⟨k, hk⟩).view.WordExact}
    {hsem : DmaTarget.Typed .vmem (.dma (recvS ⟨k, hk⟩).sem)
      (.remote (Dev.tc n : Thread nD τ) (slotM ⟨k, hk⟩ : Memref sig .tc .vmem S2x1024 .f32) (.dma (sendS ⟨k, hk⟩).sem) hsc)}
    {α : Type} {Q : α → sProp 𝕄} {κ : PUnit → Prog (TpuEff nD τ sig (Elt F) Λ₀ .tc) α} :
    iprop(records m ρ K ∗ Snd m ρ c k W)
      ⊢ iprop((Snd m ρ c (k + 1) W -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma pM (.remote (Dev.tc n : Thread nD τ) (slotM ⟨k, hk⟩) (.dma (sendS ⟨k, hk⟩).sem) hsc) (.dma (recvS ⟨k, hk⟩).sem) hsrc hdst hsem) κ) Q) := by
  subst hn
  unfold Snd
  rw [bigSep_finFrom_succ hk, bigSep_finUpTo_succ hk]
  iintro ⟨#HR, HO, ⟨⟨Hp, Hts, Htr, Hslot⟩, Hrest⟩, Hdone⟩ Hk
  ihave #Hr := (rec_send m ρ K c ⟨k, hk⟩) $$ HR
  icases Hr with ⟨#HIs, #Hms⟩
  ihave #Hr' := (rec_recv m ρ K (pe c ⟨k, hk⟩) ⟨k, hk⟩) $$ HR
  icases Hr' with ⟨#HIr, #Hmr⟩
  unfold slotAny pPts
  icases Hslot with ⟨%fd, Hslot⟩
  iapply (Rounds.wp_send_pointsTo 𝒱₀ ER (ringRd m ρ) (c : Thread nD τ) none (κ₁ := K (c, .inr (.inl ⟨k, hk⟩))) (κ₂ := K (pe c ⟨k, hk⟩, .inr (.inr ⟨k, hk⟩)))
    (r₁ := 0) (r₂ := 0) (d₁ := 0) (d₂ := 0) (fd := fd)
    (mem_send m ρ _ _) (mem_recv m ρ _ _) () () N rfl (amount_send m ρ _ _) (amount_recv m ρ _ _) (OR c (k + 1))
    (O₀ := OR c k) (OR_succ c hk) (W := W)
    (by rw [pay_send]; exact BI.Entails.refl _) (by rw [pay_recv]; exact slot_filled m ρ c ⟨k, hk⟩ fd)) $$ [HO Hp Hts Htr Hslot]
  · isplitr; · iexact HIs
    isplitr; · iexact HIr
    isplitl [Hp]; · iexact Hp
    isplitl [Hslot]; · iexact Hslot
    isplitl [HO]; · iexact HO
    isplitl [Hts]; · iexact Hts
    isplitr; · iexact Hms
    isplitl [Htr]; · iexact Htr
    iexact Hmr
  iintro ⟨Hc, HO⟩
  iapply Hk
  isplitl [HO]; · iexact HO
  isplitl [Hrest]; · iexact Hrest
  isplitl [Hc] <;> iassumption

/-! ## The waits for the transfers -/

/-- A wait for the one transfer of an own cell: what the transfer hands over, and the cell closed, its counter at zero. -/
theorem wait_cell (o : OK) (sm : SemLoc sig) (hsm : osem o = sm) (P : sProp 𝕄) (hP : payK m ρ c (.inr o) 0 = P) (W : Waits sig Unit)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ sm N R)
    {α : Type} {Q : α → sProp 𝕄} {κ : PUnit → Prog (TpuEff nD τ sig (Elt F) Λ₀ .tc) α} :
    iprop(records m ρ K ∗ cred (tallyAt ((c : Thread nD τ), sm) () N) ∗ owes (c : Thread nD τ) 0 W ∗ atPos ER ((c : Thread nD τ), sm) 0 ∅ 0)
      ⊢ iprop((((∃ W' : Waits sig Unit, owes (c : Thread nD τ) 0 W') ∗ P ∗ semVal ((c : Thread nD τ), sm) 0)
            -∗ wp frame (wpE (defs₀ (F := F)) 𝒱₀ (c : Thread nD τ) none) Set.univ (κ ⟨⟩) Q)
          -∗ wp frame (wpE (defs₀ (F := F)) 𝒱₀ (c : Thread nD τ) none) Set.univ (.op w κ) Q) := by
  subst hsm hP
  iintro ⟨#HR, Hc, HO, Hat⟩ Hk
  ihave #Hr := (rec_own m ρ K c o) $$ HR
  icases Hr with ⟨#HI, -⟩
  iapply (Rounds.wp_wait_rest_token 𝒱₀ ER (ringRd m ρ) (c : Thread nD τ) none (κ := K (c, .inr o)) (sm := osem o) (k' := N)
      hw (Set.mem_univ _) () (O := 0) (W := W) (R := 0) (m := 0) (T := ∅)
      (by rw [Nat.zero_add]; exact (expect_k m ρ c (.inr o)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_own m ρ c o)) $$ Hpay
  imod (Rounds.cell_close ER (ringRd m ρ) (Set.mem_univ (K (c, .inr o))) (fun h => h) (R := 0 + 1) (duties_later m ρ ((c : Thread nD τ), osem o))) $$ [Hat] with Hz
  · isplitr; · iexact HI
    iexact Hat
  iapply Hk
  isplitl [HO]; · iexists _; iexact HO
  isplitl [Hp] <;> iassumption

/-- The transfers of the first `k` distances waited for: for each one to come the two credits and positions its waits
    need; for each one past the lent share back, the filled slot, and the two counters at zero. -/
def Wtg (k : ℕ) : sProp 𝕄 :=
  iprop((∃ W : Waits sig Unit, owes (c : Thread nD τ) 0 W)
    ∗ bigSep (finFrom 15 k) (fun d => iprop(cred (tallyAt (sendCell c d) () N) ∗ cred (tallyAt (recvCell c d) () N)
        ∗ atPos ER (sendCell c d) 0 ∅ 0 ∗ atPos ER (recvCell c d) 0 ∅ 0))
    ∗ bigSep (finUpTo 15 k) (fun d => iprop(pPts m ρ c (shareTokN fullShare d.val) ∗ slotFull m ρ c d
        ∗ semVal (sendCell c d) 0 ∗ semVal (recvCell c d) 0)))

/-- The two waits of distance `k`: for its copy out, then for the copy into its slot. -/
theorem step_wtg (k : ℕ) (hk : k < 15)
    {h₁ : (slotM ⟨k, hk⟩).view.WordExact} {h₂ : (pM : Memref sig .tc .vmem S2x1024 .f32).view.WordExact}
    {h₃ : (pM : Memref sig .tc .vmem S2x1024 .f32).view.WordExact} {h₄ : (slotM ⟨k, hk⟩).view.WordExact}
    {α : Type} {Q : α → sProp 𝕄} {κ : PUnit → Prog (TpuEff nD τ sig (Elt F) Λ₀ .tc) α} :
    iprop(records m ρ K ∗ Wtg m ρ c k)
      ⊢ iprop((Wtg m ρ c (k + 1) -∗ wp frame (wpE (defs₀ (F := F)) 𝒱₀ (c : Thread nD τ) none) Set.univ (κ ⟨⟩) Q)
          -∗ wp frame (wpE (defs₀ (F := F)) 𝒱₀ (c : Thread nD τ) none) Set.univ
              (.op (.waitDma2 (sendS ⟨k, hk⟩).sem (slotM ⟨k, hk⟩) pM h₁ h₂)
                fun _ => .op (.waitDma2 (recvS ⟨k, hk⟩).sem pM (slotM ⟨k, hk⟩) h₃ h₄) κ) Q) := by
  unfold Wtg
  rw [bigSep_finFrom_succ hk, bigSep_finUpTo_succ hk]
  iintro ⟨#HR, ⟨%W, HO⟩, ⟨⟨Hcs, Hcr, Has, Har⟩, Hrest⟩, Hdone⟩ Hk
  iapply (wait_cell m ρ K c (.inl ⟨k, hk⟩) (.dma (sendS ⟨k, hk⟩).sem) rfl (pPts m ρ c (shareTokN fullShare k)) rfl W
    (fun R => wpE_waitDma2_eq 𝒱₀ (c : Thread nD τ) none Set.univ R)) $$ [HO Hcs Has]
  · isplitr; · iexact HR
    isplitl [Hcs]; · iexact Hcs
    isplitl [HO] <;> iassumption
  iintro ⟨⟨%W', HO⟩, Hp, Hzs⟩
  iapply (wait_cell m ρ K c (.inr ⟨k, hk⟩) (.dma (recvS ⟨k, hk⟩).sem) rfl (slotFull m ρ c ⟨k, hk⟩) rfl W'
    (fun R => (wpE_waitDma2_eq 𝒱₀ (c : Thread nD τ) none Set.univ R).trans (by rw [slot_credit]))) $$ [HO Hcr Har]
  · isplitr; · iexact HR
    isplitl [Hcr]; · iexact Hcr
    isplitl [HO] <;> iassumption
  iintro ⟨HO, Hs, Hzr⟩
  iapply Hk
  isplitl [HO]; · iexact HO
  isplitl [Hrest]; · iexact Hrest
  isplitr [Hdone]
  · isplitl [Hp]; · iexact Hp
    isplitl [Hs]; · iexact Hs
    isplitl [Hzs] <;> iassumption
  iexact Hdone

end Steps

end Cert.KProof

end

end
-- ==== Proof.Slots.lean ====
/-
# The receive buffer's slots, the two-row buffers' stores, and the devices the kernel names

The receive buffer is its fifteen slots; a two-row buffer stored row by row holds the pair of those rows; and the
devices the kernel computes for its signals and copies are the ones at the successive distances.
-/
module

public import proofs.«01_k».proof.Proof.Steps
public import Idealize.ShloMosaic.Lib.Ring
public import Idealize.ShloMosaic.Lib.Writes
public import Idealize.ShloMosaic.Lib.WritesUnit
public import Idealize.ShloMosaic.Lib.ValueLayout

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Transfers (shareTokN shareDrop shareTok)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices named -/

/-- The devices signalled, in program order; -/
def sigDev : Fin 15 → Dev nD → ℕ :=
  ![k0_dev1, k0_dev2, k0_dev3, k0_dev4, k0_dev5, k0_dev6, k0_dev7, k0_dev8, k0_dev9, k0_dev10, k0_dev11, k0_dev12, k0_dev13, k0_dev14, k0_dev15]
/-- the devices copied to, in program order. -/
def cpyDev : Fin 15 → Dev nD → ℕ :=
  ![k0_dev16, k0_dev17, k0_dev18, k0_dev19, k0_dev20, k0_dev21, k0_dev22, k0_dev23, k0_dev24, k0_dev25, k0_dev26, k0_dev27, k0_dev28, k0_dev29, k0_dev30]

/-- Signal `d` goes to the device at distance `d`, -/
theorem sigDev_eq : ∀ (d : Fin 15) (c : Dev nD), sigDev d c = (pe c d).val := by decide +kernel
/-- and so does copy `d`. -/
theorem cpyDev_eq : ∀ (d : Fin 15) (c : Dev nD), cpyDev d c = (pe c d).val := by decide +kernel

/-! ## The slots -/

/-- Row `r`, column `j` of slot `d` is the receive buffer's element `(d, r, j)`. -/
theorem slot_emb (d : Fin 15) (r : Fin 2) (j : Fin 1024) :
    (slotM d).view.emb (ix2 r j) = (ix3 d r j : S15x2x1024.Idx) := by
  show (View.whole cc0_scratch1).emb ((Rect.unit (s := S15x2x1024) ![d.val, 0, 0] S1x2x1024.size (slot_inb d)).emb
    (Shape.reshapeEquiv squeezes_S1x2x1024_S2x1024.numel_eq (ix2 r j))) = _
  rw [show Shape.reshapeEquiv squeezes_S1x2x1024_S2x1024.numel_eq (ix2 r j) = ix3 (⟨0, Nat.one_pos⟩ : Fin 1) r j from
    reshapeEquiv_ix2_1ab _ r j]
  funext a
  refine Fin.ext ?_
  fin_cases a
  · show d.val + 1 * 0 = d.val
    rw [Nat.mul_zero, Nat.add_zero]
  · show 0 + 1 * r.val = r.val
    rw [Nat.one_mul, Nat.zero_add]
  · show 0 + 1 * j.val = j.val
    rw [Nat.one_mul, Nat.zero_add]

theorem slot_emb' (d : Fin 15) (x : S2x1024.Idx) : (slotM d).view.emb x = (ix3 d (x 0) (x 1) : S15x2x1024.Idx) := by
  conv_lhs => rw [eq_ix2 x]
  exact slot_emb d (x 0) (x 1)

/-- The elements of slot `d`. -/
abbrev slotSet (d : Fin 15) : Finset S15x2x1024.Idx := (slotM d).view.set

/-- An element is in slot `d` iff its first coordinate is `d`. -/
theorem mem_slot (d : Fin 15) (i : S15x2x1024.Idx) : i ∈ (slotM d).view.set ↔ i 0 = d := by
  show i ∈ Finset.univ.map (slotM d).view.emb ↔ _
  rw [Finset.mem_map]
  constructor
  · rintro ⟨x, -, rfl⟩
    rw [slot_emb']
  · rintro rfl
    exact ⟨ix2 (i 1) (i 2), Finset.mem_univ _, (slot_emb (i 0) (i 1) (i 2)).trans (eq_ix3 i).symm⟩

theorem slot_disj (t : Fin 15) (_ : t ∈ (Finset.univ : Finset (Fin 15))) (t' : Fin 15) (_ : t' ∈ (Finset.univ : Finset (Fin 15)))
    (h : t ≠ t') : Disjoint (slotSet t) (slotSet t') :=
  Finset.disjoint_left.mpr fun i hi hi' => h (((mem_slot t i).mp hi).symm.trans ((mem_slot t' i).mp hi'))

theorem slot_cover : (Finset.univ : Finset (Fin 15)).biUnion slotSet = Finset.univ := by
  refine Finset.eq_univ_of_forall fun i => ?_
  rw [Finset.mem_biUnion]
  exact ⟨i 0, Finset.mem_univ _, (mem_slot (i 0) i).mpr rfl⟩

/-- A receive buffer held whole is its slots held one by one. -/
theorem comm_slots (c : Dev nD) (f : Buf (Elt F) ((c : Thread nD τ).loc cc0_scratch1)) :
    (((c : Thread nD τ).loc cc0_scratch1) ↦{fullShare} f : sProp 𝕄)
      = bigSep Finset.univ fun d : Fin 15 => ((slotM d).view.loc (c : Thread nD τ) ↦[(slotM d).view.set]{fullShare} f : sProp 𝕄) := by
  refine Eq.trans ?_ (pointsTo_biUnion (ℓ := (c : Thread nD τ).loc cc0_scratch1) (q := fullShare) (f := f) (Finset.univ : Finset (Fin 15))
    slotSet slot_disj)
  rw [slot_cover]

theorem slotAny_intro (c : Dev nD) (d : Fin 15) (f : Buf (Elt F) ((slotM d).view.loc (c : Thread nD τ))) :
    ((slotM d).view.loc (c : Thread nD τ) ↦[(slotM d).view.set]{fullShare} f : sProp 𝕄) ⊢ slotAny c d := by
  unfold slotAny
  iintro H
  iexists f
  iexact H

/-- Given up slot by slot. -/
theorem comm_split (c : Dev nD) (f : Buf (Elt F) ((c : Thread nD τ).loc cc0_scratch1)) :
    (((c : Thread nD τ).loc cc0_scratch1) ↦{fullShare} f : sProp 𝕄) ⊢ bigSep Finset.univ fun d : Fin 15 => slotAny (F := F) c d := by
  rw [comm_slots]
  exact bigSep_mono fun d _ => slotAny_intro c d f

/-- What the receive buffer holds once every slot is filled. -/
def commC (c : Dev nD) : (cc0_scratch1 : Ref sig .tc).ty.Contents (Elt F) :=
  fun i : S15x2x1024.Idx => partC m ρ (so c (i 0)) (ix2 (i 1) (i 2) : S2x1024.Idx)

/-- A filled slot is that slot of the filled buffer. -/
theorem slotFull_elim (c : Dev nD) (d : Fin 15) :
    slotFull m ρ c d ⊢ ((slotM d).view.loc (c : Thread nD τ) ↦[(slotM d).view.set]{fullShare} commC m ρ c : sProp 𝕄) := by
  unfold slotFull owns
  iintro ⟨%f, %hf, H⟩
  have h : ∀ i ∈ slotSet d, f i = commC m ρ c i := by
    intro i hi
    obtain ⟨x, -, rfl⟩ := Finset.mem_map.mp hi
    refine (show f ((slotM d).view.emb x) = partC m ρ (so c d) x from congrFun hf x).trans ?_
    rw [slot_emb']
    exact congrArg (partC m ρ (so c d)) (eq_ix2 x)
  iapply (Entails.of_eq (pointsTo_congr (ℓ := (slotM d).view.loc (c : Thread nD τ)) h))
  iexact H

/-- Got back whole, every slot filled. -/
theorem comm_join (c : Dev nD) :
    (bigSep Finset.univ fun d : Fin 15 => slotFull m ρ c d) ⊢ (((c : Thread nD τ).loc cc0_scratch1) ↦{fullShare} commC m ρ c : sProp 𝕄) := by
  rw [comm_slots]
  exact bigSep_mono fun d _ => slotFull_elim m ρ c d

/-! ## Stores of a two-row buffer, and its loads -/

abbrev xR : Rect S2048x1024 := Rect.unit (s := S2048x1024) ![0, 0] S2048x1024.size inb_S2048x1024_S2048x1024_0_0
abbrev row0 : Rect S2x1024 := Rect.unit (s := S2x1024) ![0, 0] S1x1024.size inb_S2x1024_S1x1024_0_0
abbrev row1 : Rect S2x1024 := Rect.unit (s := S2x1024) ![1, 0] S1x1024.size inb_S2x1024_S1x1024_1_0
abbrev crow0 : Rect S15x2x1024 := Rect.unit (s := S15x2x1024) ![0, 0, 0] S15x1x1024.size inb_S15x2x1024_S15x1x1024_0_0_0
abbrev crow1 : Rect S15x2x1024 := Rect.unit (s := S15x2x1024) ![0, 1, 0] S15x1x1024.size inb_S15x2x1024_S15x1x1024_0_1_0

theorem hz : (![0, 0] : Fin 2 → Nat) = fun _ => 0 := funext fun a => by fin_cases a <;> rfl

/-- The kernel reads its whole block. -/
theorem read_x (f : (cc0_stg0_0 : Ref sig .tc).ty.Contents (Elt F)) : (xM : Memref sig .tc .vmem S2048x1024 .f32).view.readAt (Elt F) xR.toLoadRect f = f :=
  Memref.readAt_unit_zero (Elt F) cc0_stg0_0 hz _ f

/-- Storing one row, then the other, leaves the pair of them. -/
theorem write_rows (v : View sig .tc .vmem S2x1024 .f32) (f : v.ty.Contents (Elt F)) (w₀ w₁ : S1x1024.Idx → Elt F .f32) :
    v.read (Elt F) ((v.slice row1).write (Elt F) ((v.slice row0).write (Elt F) f w₀ Finset.univ) w₁ Finset.univ) = rows2 w₀ w₁ := by
  show v.read (Elt F) (v.writes (Elt F) f [(⟨row1, w₁⟩ : View.Piece (Elt F) S2x1024 .f32), ⟨row0, w₀⟩]) = _
  funext y
  unfold rows2
  have hy : (y 0).val < 2 := (y 0).isLt
  by_cases h : (y 0).val = 0
  · rw [if_pos h]
    refine (View.read_writes_cons_rows_of_not_mem (o := 1) (W := 1) v f _ w₁ _ y rfl rfl (.inl (by omega))).trans ?_
    exact View.read_writes_cons_rows_of_mem (o := 0) v f _ w₀ _ y (ix2 (0 : Fin 1) (y 1)) rfl (by rw [h]; rfl) rfl
  · rw [if_neg h]
    exact View.read_writes_cons_rows_of_mem (o := 1) v f _ w₁ _ y (ix2 (0 : Fin 1) (y 1)) rfl (by show (y 0).val = 1 + 0; omega) rfl

theorem write_p (f : (cc0_scratch0 : Ref sig .tc).ty.Contents (Elt F)) (w₀ w₁ : S1x1024.Idx → Elt F .f32) :
    ((pM : Memref sig .tc .vmem S2x1024 .f32).access row1 : View sig .tc _ _ _).write (Elt F)
        (((pM : Memref sig .tc .vmem S2x1024 .f32).access row0 : View sig .tc _ _ _).write (Elt F) f w₀ Finset.univ) w₁ Finset.univ = rows2 w₀ w₁ :=
  write_rows (F := F) (View.whole cc0_scratch0) f w₀ w₁
theorem write_o (f : (cc0_stg1_0 : Ref sig .tc).ty.Contents (Elt F)) (w₀ w₁ : S1x1024.Idx → Elt F .f32) :
    ((oM : Memref sig .tc .vmem S2x1024 .f32).access row1 : View sig .tc _ _ _).write (Elt F)
        (((oM : Memref sig .tc .vmem S2x1024 .f32).access row0 : View sig .tc _ _ _).write (Elt F) f w₀ Finset.univ) w₁ Finset.univ = rows2 w₀ w₁ :=
  write_rows (F := F) (View.whole cc0_stg1_0) f w₀ w₁

/-- The rows device `c` reduces at the end: its own pair's, and the fifteen received. -/
abbrev own0 (c : Dev nD) : Vec F S1x1024 .f32 := (pM : Memref sig .tc .vmem S2x1024 .f32).view.readAt (Elt F) row0.toLoadRect (partC m ρ c)
abbrev own1 (c : Dev nD) : Vec F S1x1024 .f32 := (pM : Memref sig .tc .vmem S2x1024 .f32).view.readAt (Elt F) row1.toLoadRect (partC m ρ c)
abbrev oth0 (c : Dev nD) : Vec F S15x1x1024 .f32 := (cM : Memref sig .tc .vmem S15x2x1024 .f32).view.readAt (Elt F) crow0.toLoadRect (commC m ρ c)
abbrev oth1 (c : Dev nD) : Vec F S15x1x1024 .f32 := (cM : Memref sig .tc .vmem S15x2x1024 .f32).view.readAt (Elt F) crow1.toLoadRect (commC m ρ c)

/-- What device `c` leaves in its result: the largest of the sixteen maxima, the least index among the devices that
    attain it. -/
def outC (c : Dev nD) : (cc0_stg1_0 : Ref sig .tc).ty.Contents (Elt F) :=
  rows2 (α := Elt F .f32) (k0_pay6 (own0 m ρ c) (oth0 m ρ c)) (k0_pay7 (own0 m ρ c) (oth0 m ρ c) (own1 m ρ c) (oth1 m ρ c))

end Cert.KProof

end

end
-- ==== Proof.Body.lean ====
/-
# The body's run on one device

The pipeline's proof data for the launch, and the body executed from what the launch hands it to what it leaves: its
slots given out with its signals, its pair of rows computed and lent to the fifteen copies, everything collected by
the waits, the sixteen pairs reduced.
-/
module

public import proofs.«01_k».proof.Proof.Slots

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Transfers (shareTokN shareDrop shareTok)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from besides its buffers: every cell's record; its position in each of its cells; the
    tokens of the duties it pays; the credits of its barrier's fifteen units and of its fifteen receives; the levels. -/
def ghost (K : Dev nD × CK → ℕ) (c : Dev nD) : sProp 𝕄 :=
  iprop(records m ρ K ∗ atPos ER (barCell c) 0 ∅ 0
    ∗ (bigSep Finset.univ fun d => atPos ER (sendCell c d) 0 ∅ 0) ∗ (bigSep Finset.univ fun d => atPos ER (recvCell c d) 0 ∅ 0)
    ∗ (bigSep Finset.univ fun d => dutyTok ER (barCell (pe c d)) 0 d.rev)
    ∗ (bigSep Finset.univ fun d => dutyTok ER (sendCell c d) 0 0) ∗ (bigSep Finset.univ fun d => dutyTok ER (recvCell (pe c d) d) 0 0))

def start (c : Dev nD) : sProp 𝕄 :=
  iprop((∃ K, ghost m ρ K c) ∗ cred (tallyAt (barCell c) () 15) ∗ (bigSep Finset.univ fun d => cred (tallyAt (recvCell c d) () N)) ∗ levAts L lv)

/-- A device's two scratch buffers, whatever they hold. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the one point of the grid; -/
def Φ₀ (c : Dev nD) : sProp 𝕄 := iprop(start m ρ c ∗ scr c)
/-- after it: the scratch buffers, and every one of the device's cells closed at zero. -/
def Φ₁ (c : Dev nD) : sProp 𝕄 :=
  iprop(scr (F := F) c ∗ semVal (barCell c) 0 ∗ (bigSep Finset.univ fun d => semVal (sendCell c d) 0) ∗ (bigSep Finset.univ fun d => semVal (recvCell c d) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Passing from one run of steps to the next -/

section Between

variable (c : Dev nD)

/-- Before the first signal: all that is owed, the barrier duties to pay and the receive buffer. -/
theorem sig_intro (W : Waits sig Unit) (f : Buf (Elt F) ((c : Thread nD τ).loc cc0_scratch1)) :
    iprop(owes (c : Thread nD τ) (O₀ c) W ∗ (bigSep Finset.univ fun d => dutyTok ER (barCell (pe c d)) 0 d.rev)
        ∗ (((c : Thread nD τ).loc cc0_scratch1) ↦{fullShare} f))
      ⊢ (Sig c 0 W : sProp 𝕄) := by
  unfold Sig
  rw [bigSep_finFrom_zero, bigSep_sep']
  iintro ⟨HO, Ht, Hc⟩
  isplitl [HO]; · iexact HO
  isplitl [Ht]; · iexact Ht
  ihave Hs := (comm_split c f) $$ Hc
  iapply (Entails.of_eq (bigSep_univ_equiv (Fin.revPerm : Equiv.Perm (Fin 15)) (fun d => slotAny (F := F) c d)))
  iexact Hs

/-- After the last signal only the receive credits are owed. -/
theorem sig_elim (W : Waits sig Unit) : (Sig c 15 W : sProp 𝕄) ⊢ owes (c : Thread nD τ) (OR c 0) W := by
  unfold Sig
  rw [OB_end, add_zero]
  iintro ⟨HO, -⟩
  iexact HO

/-- A device's pair of rows held whole is a share for each copy and a rest. -/
theorem part_shares : (((c : Thread nD τ).loc cc0_scratch0) ↦{fullShare} partC m ρ c : sProp 𝕄)
    ⊣⊢ iprop(pPts m ρ c (shareDrop fullShare 15) ∗ bigSep Finset.univ fun d : Fin 15 => pPts m ρ c (shareTokN fullShare d.val)) := by
  unfold pPts
  rw [View.set_whole]
  exact Transfers.pointsTo_toks fullShare 15

/-- Before the first copy. -/
theorem snd_intro (W : Waits sig Unit) :
    iprop(owes (c : Thread nD τ) (OR c 0) W ∗ (bigSep Finset.univ fun d : Fin 15 => pPts m ρ c (shareTokN fullShare d.val))
        ∗ (bigSep Finset.univ fun d => dutyTok ER (sendCell c d) 0 0) ∗ (bigSep Finset.univ fun d => dutyTok ER (recvCell (pe c d) d) 0 0)
        ∗ (bigSep Finset.univ fun d => slotAny (pe c d) d))
      ⊢ Snd m ρ c 0 W := by
  unfold Snd
  rw [bigSep_finFrom_zero, bigSep_finUpTo_zero, bigSep_sep', bigSep_sep', bigSep_sep']
  iintro ⟨HO, Hp, Hs, Hr, Ha⟩
  isplitl [HO]; · iexact HO
  isplitl
  · isplitl [Hp]; · iexact Hp
    isplitl [Hs]; · iexact Hs
    isplitl [Hr] <;> iassumption
  · iempintro

/-- After the last copy the waits begin. -/
theorem wtg_intro (W : Waits sig Unit) :
    iprop(Snd m ρ c 15 W ∗ (bigSep Finset.univ fun d => cred (tallyAt (recvCell c d) () N))
        ∗ (bigSep Finset.univ fun d => atPos ER (sendCell c d) 0 ∅ 0) ∗ (bigSep Finset.univ fun d => atPos ER (recvCell c d) 0 ∅ 0))
      ⊢ Wtg m ρ c 0 := by
  unfold Snd Wtg
  rw [bigSep_finFrom_zero, bigSep_finUpTo_zero, bigSep_finUpTo_self, OR_end]
  simp only [bigSep_sep']
  iintro ⟨⟨HO, -, Hc⟩, Hr, Has, Har⟩
  isplitl [HO]; · iexists W; iexact HO
  isplitl
  · isplitl [Hc]; · iexact Hc
    isplitl [Hr]; · iexact Hr
    isplitl [Has] <;> iassumption
  · iempintro

/-- After the last wait: nothing owed, the lent shares back, the receive buffer filled, every transfer cell at zero. -/
theorem wtg_elim :
    Wtg m ρ c 15 ⊢ iprop((∃ W : Waits sig Unit, owes (c : Thread nD τ) 0 W)
        ∗ (bigSep Finset.univ fun d : Fin 15 => pPts m ρ c (shareTokN fullShare d.val))
        ∗ (((c : Thread nD τ).loc cc0_scratch1) ↦{fullShare} commC m ρ c)
        ∗ (bigSep Finset.univ fun d => semVal (sendCell c d) 0) ∗ (bigSep Finset.univ fun d => semVal (recvCell c d) 0)) := by
  unfold Wtg
  rw [bigSep_finUpTo_self]
  simp only [bigSep_sep']
  iintro ⟨HO, -, Hp, Hs, Hzs, Hzr⟩
  ihave Hc := (comm_join m ρ c) $$ Hs
  isplitl [HO]; · iexact HO
  isplitl [Hp]; · iexact Hp
  isplitl [Hc]; · iexact Hc
  isplitl [Hzs] <;> iassumption

end Between

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 15) ∗ (bigSep Finset.univ fun d => cred (tallyAt (recvCell c d) () N)) ∗ levAts L lv ∗ scr c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outC m ρ c))

set_option maxHeartbeats 4000000 in
set_option maxRecDepth 16384 in
/-- The body, executed one rule per effect in program order from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, wp_deviceId]
  unfold bodyPre ghost scr
  iintro ⟨⟨⟨⟨#HR, HatB, HatS, HatV, HtB, HtS, HtV⟩, HcB, HcV, #Hlev, ⟨%f0, Hp⟩, ⟨%f1, Hc⟩⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  -- the fifteen SIGNALS, each with the slot its receiver fills
  ihave HS := (sig_intro c W f1) $$ [HO HtB Hc]
  · isplitl [HO]; · iexact HO
    isplitl [HtB] <;> iassumption
  iapply (step_sig m ρ K c 0 (by decide) W _ (Fin.ext (sigDev_eq 0 c)) rfl) $$ [HS]
  · isplitr; · iexact HR
    iexact HS
  iintro HS
  iapply (step_sig m ρ K c 1 (by decide) W _ (Fin.ext (sigDev_eq 1 c)) rfl) $$ [HS]
  · isplitr; · iexact HR
    iexact HS
  iintro HS
  iapply (step_sig m ρ K c 2 (by decide) W _ (Fin.ext (sigDev_eq 2 c)) rfl) $$ [HS]
  · isplitr; · iexact HR
    iexact HS
  iintro HS
  iapply (step_sig m ρ K c 3 (by decide) W _ (Fin.ext (sigDev_eq 3 c)) rfl) $$ [HS]
  · isplitr; · iexact HR
    iexact HS
  iintro HS
  iapply (step_sig m ρ K c 4 (by decide) W _ (Fin.ext (sigDev_eq 4 c)) rfl) $$ [HS]
  · isplitr; · iexact HR
    iexact HS
  iintro HS
  iapply (step_sig m ρ K c 5 (by decide) W _ (Fin.ext (sigDev_eq 5 c)) rfl) $$ [HS]
  · isplitr; · iexact HR
    iexact HS
  iintro HS
  iapply (step_sig m ρ K c 6 (by decide) W _ (Fin.ext (sigDev_eq 6 c)) rfl) $$ [HS]
  · isplitr; · iexact HR
    iexact HS
  iintro HS
  iapply (step_sig m ρ K c 7 (by decide) W _ (Fin.ext (sigDev_eq 7 c)) rfl) $$ [HS]
  · isplitr; · iexact HR
    iexact HS
  iintro HS
  iapply (step_sig m ρ K c 8 (by decide) W _ (Fin.ext (sigDev_eq 8 c)) rfl) $$ [HS]
  · isplitr; · iexact HR
    iexact HS
  iintro HS
  iapply (step_sig m ρ K c 9 (by decide) W _ (Fin.ext (sigDev_eq 9 c)) rfl) $$ [HS]
  · isplitr; · iexact HR
    iexact HS
  iintro HS
  iapply (step_sig m ρ K c 10 (by decide) W _ (Fin.ext (sigDev_eq 10 c)) rfl) $$ [HS]
  · isplitr; · iexact HR
    iexact HS
  iintro HS
  iapply (step_sig m ρ K c 11 (by decide) W _ (Fin.ext (sigDev_eq 11 c)) rfl) $$ [HS]
  · isplitr; · iexact HR
    iexact HS
  iintro HS
  iapply (step_sig m ρ K c 12 (by decide) W _ (Fin.ext (sigDev_eq 12 c)) rfl) $$ [HS]
  · isplitr; · iexact HR
    iexact HS
  iintro HS
  iapply (step_sig m ρ K c 13 (by decide) W _ (Fin.ext (sigDev_eq 13 c)) rfl) $$ [HS]
  · isplitr; · iexact HR
    iexact HS
  iintro HS
  iapply (step_sig m ρ K c 14 (by decide) W _ (Fin.ext (sigDev_eq 14 c)) rfl) $$ [HS]
  · isplitr; · iexact HR
    iexact HS
  iintro HS
  ihave HO := (sig_elim c W) $$ HS
  -- the block's maxima and their rows
  iapply (wp_load 𝒱₀ (c : Thread nD τ) none Set.univ (m := xM) (Finset.subset_univ _)) $$ Hx; iintro Hx
  rw [read_x]
  iapply (wp_load 𝒱₀ (c : Thread nD τ) none Set.univ (m := pM) (Finset.subset_univ _)) $$ Hp; iintro Hp
  iapply (wp_store 𝒱₀ (c : Thread nD τ) none Set.univ (m := pM) (r := row0) (Mk := Finset.univ) (Finset.subset_univ _)) $$ Hp; iintro Hp
  iapply (wp_load 𝒱₀ (c : Thread nD τ) none Set.univ (m := pM) (Finset.subset_univ _)) $$ Hp; iintro Hp
  iapply (wp_store 𝒱₀ (c : Thread nD τ) none Set.univ (m := pM) (r := row1) (Mk := Finset.univ) (Finset.subset_univ _)) $$ Hp; iintro Hp
  rw [write_p]
  -- the WAIT for the fifteen signals: every slot this device fills
  iapply (Rounds.wp_wait_rest_token 𝒱₀ ER (ringRd m ρ) (c : Thread nD τ) none (κ := K (c, .inl ()))
      (wpE_semWait_eq 𝒱₀ (c : Thread nD τ) none Set.univ) (Set.mem_univ _) () (O := OR c 0) (W := W) (R := 0) (m := 0) (T := ∅)
      ((Nat.zero_add _).trans (expect_k m ρ c (.inl ())).symm)) $$ [HcB HO HatB]
  · isplitr; · iapply ((rec_bar m ρ K c).trans sep_elim_left); iexact HR
    isplitl [HcB]; · iexact HcB
    isplitl [HO]; · iexact HO
    isplitr; · iapply (mayWait_bar c 0); iexact Hlev
    iexact HatB
  iintro ⟨HO, HatB, -, Hpay⟩
  ihave Hslots := (Entails.of_eq (rest_bar m ρ c)) $$ Hpay
  imod (Rounds.cell_close ER (ringRd m ρ) (Set.mem_univ (K (c, .inl ()))) (fun h => h) (R := 0 + 1) (duties_later m ρ (barCell c))) $$ [HatB] with HzB
  · isplitr; · iapply ((rec_bar m ρ K c).trans sep_elim_left); iexact HR
    iexact HatB
  -- the fifteen COPIES of its pair of rows
  ihave Hp' := (show ((View.loc (c : Thread nD τ) ((pM : Memref sig .tc .vmem S2x1024 .f32).access row1 : View sig .tc _ _ _)) ↦{fullShare}
      (rows2 (k0_pay3 (xstg m ρ c)) (k0_pay4 (wid c) (xstg m ρ c))) : sProp 𝕄) ⊢ _ from (part_shares m ρ c).1) $$ Hp
  icases Hp' with ⟨Hp, Htok⟩
  ihave HS := (snd_intro m ρ c _) $$ [HO Htok HtS HtV Hslots]
  · isplitl [HO]; · iexact HO
    isplitl [Htok]; · iexact Htok
    isplitl [HtS]; · iexact HtS
    isplitl [HtV] <;> iassumption
  iapply (step_snd m ρ K c 0 (by decide) _ _ (Fin.ext (cpyDev_eq 0 c))) $$ [HS]
  · isplitr; · iexact HR
    iexact HS
  iintro HS
  iapply (step_snd m ρ K c 1 (by decide) _ _ (Fin.ext (cpyDev_eq 1 c))) $$ [HS]
  · isplitr; · iexact HR
    iexact HS
  iintro HS
  iapply (step_snd m ρ K c 2 (by decide) _ _ (Fin.ext (cpyDev_eq 2 c))) $$ [HS]
  · isplitr; · iexact HR
    iexact HS
  iintro HS
  iapply (step_snd m ρ K c 3 (by decide) _ _ (Fin.ext (cpyDev_eq 3 c))) $$ [HS]
  · isplitr; · iexact HR
    iexact HS
  iintro HS
  iapply (step_snd m ρ K c 4 (by decide) _ _ (Fin.ext (cpyDev_eq 4 c))) $$ [HS]
  · isplitr; · iexact HR
    iexact HS
  iintro HS
  iapply (step_snd m ρ K c 5 (by decide) _ _ (Fin.ext (cpyDev_eq 5 c))) $$ [HS]
  · isplitr; · iexact HR
    iexact HS
  iintro HS
  iapply (step_snd m ρ K c 6 (by decide) _ _ (Fin.ext (cpyDev_eq 6 c))) $$ [HS]
  · isplitr; · iexact HR
    iexact HS
  iintro HS
  iapply (step_snd m ρ K c 7 (by decide) _ _ (Fin.ext (cpyDev_eq 7 c))) $$ [HS]
  · isplitr; · iexact HR
    iexact HS
  iintro HS
  iapply (step_snd m ρ K c 8 (by decide) _ _ (Fin.ext (cpyDev_eq 8 c))) $$ [HS]
  · isplitr; · iexact HR
    iexact HS
  iintro HS
  iapply (step_snd m ρ K c 9 (by decide) _ _ (Fin.ext (cpyDev_eq 9 c))) $$ [HS]
  · isplitr; · iexact HR
    iexact HS
  iintro HS
  iapply (step_snd m ρ K c 10 (by decide) _ _ (Fin.ext (cpyDev_eq 10 c))) $$ [HS]
  · isplitr; · iexact HR
    iexact HS
  iintro HS
  iapply (step_snd m ρ K c 11 (by decide) _ _ (Fin.ext (cpyDev_eq 11 c))) $$ [HS]
  · isplitr; · iexact HR
    iexact HS
  iintro HS
  iapply (step_snd m ρ K c 12 (by decide) _ _ (Fin.ext (cpyDev_eq 12 c))) $$ [HS]
  · isplitr; · iexact HR
    iexact HS
  iintro HS
  iapply (step_snd m ρ K c 13 (by decide) _ _ (Fin.ext (cpyDev_eq 13 c))) $$ [HS]
  · isplitr; · iexact HR
    iexact HS
  iintro HS
  iapply (step_snd m ρ K c 14 (by decide) _ _ (Fin.ext (cpyDev_eq 14 c))) $$ [HS]
  · isplitr; · iexact HR
    iexact HS
  iintro HS
  -- the thirty WAITS for the transfers
  ihave HS := (wtg_intro m ρ c _) $$ [HS HcV HatS HatV]
  · isplitl [HS]; · iexact HS
    isplitl [HcV]; · iexact HcV
    isplitl [HatS] <;> iassumption
  iapply (step_wtg m ρ K c 0 (by decide)) $$ [HS]
  · isplitr; · iexact HR
    iexact HS
  iintro HS
  iapply (step_wtg m ρ K c 1 (by decide)) $$ [HS]
  · isplitr; · iexact HR
    iexact HS
  iintro HS
  iapply (step_wtg m ρ K c 2 (by decide)) $$ [HS]
  · isplitr; · iexact HR
    iexact HS
  iintro HS
  iapply (step_wtg m ρ K c 3 (by decide)) $$ [HS]
  · isplitr; · iexact HR
    iexact HS
  iintro HS
  iapply (step_wtg m ρ K c 4 (by decide)) $$ [HS]
  · isplitr; · iexact HR
    iexact HS
  iintro HS
  iapply (step_wtg m ρ K c 5 (by decide)) $$ [HS]
  · isplitr; · iexact HR
    iexact HS
  iintro HS
  iapply (step_wtg m ρ K c 6 (by decide)) $$ [HS]
  · isplitr; · iexact HR
    iexact HS
  iintro HS
  iapply (step_wtg m ρ K c 7 (by decide)) $$ [HS]
  · isplitr; · iexact HR
    iexact HS
  iintro HS
  iapply (step_wtg m ρ K c 8 (by decide)) $$ [HS]
  · isplitr; · iexact HR
    iexact HS
  iintro HS
  iapply (step_wtg m ρ K c 9 (by decide)) $$ [HS]
  · isplitr; · iexact HR
    iexact HS
  iintro HS
  iapply (step_wtg m ρ K c 10 (by decide)) $$ [HS]
  · isplitr; · iexact HR
    iexact HS
  iintro HS
  iapply (step_wtg m ρ K c 11 (by decide)) $$ [HS]
  · isplitr; · iexact HR
    iexact HS
  iintro HS
  iapply (step_wtg m ρ K c 12 (by decide)) $$ [HS]
  · isplitr; · iexact HR
    iexact HS
  iintro HS
  iapply (step_wtg m ρ K c 13 (by decide)) $$ [HS]
  · isplitr; · iexact HR
    iexact HS
  iintro HS
  iapply (step_wtg m ρ K c 14 (by decide)) $$ [HS]
  · isplitr; · iexact HR
    iexact HS
  iintro HS
  ihave H := (wtg_elim m ρ c) $$ HS
  icases H with ⟨⟨%W', HO⟩, Htok, Hc, HzS, HzV⟩
  ihave Hp := (part_shares m ρ c).2 $$ [Hp Htok]
  · isplitl [Hp] <;> iassumption
  -- the sixteen pairs reduced, and stored
  iapply (wp_load 𝒱₀ (c : Thread nD τ) none Set.univ (m := pM) (Finset.subset_univ _)) $$ Hp; iintro Hp
  iapply (wp_load 𝒱₀ (c : Thread nD τ) none Set.univ (m := cM) (Finset.subset_univ _)) $$ Hc; iintro Hc
  iapply (wp_load 𝒱₀ (c : Thread nD τ) none Set.univ (m := pM) (Finset.subset_univ _)) $$ Hp; iintro Hp
  iapply (wp_load 𝒱₀ (c : Thread nD τ) none Set.univ (m := cM) (Finset.subset_univ _)) $$ Hc; iintro Hc
  iapply (wp_load 𝒱₀ (c : Thread nD τ) none Set.univ (m := oM) (Finset.subset_univ _)) $$ Hout; iintro Hout
  iapply (wp_store 𝒱₀ (c : Thread nD τ) none Set.univ (m := oM) (r := row0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := row1) (Mk := Finset.univ) (Finset.subset_univ _)) $$ Hout; iintro Hout
  rw [write_o, wp_ret]; imodintro
  iapply Hk
  unfold bodyPost Φ₁ scr Dat.owesAt Pipeline.owesWithin
  rw [show (dats m ρ 0 c).owed t0_0.succ = 0 from rfl]
  isplitl [Hp Hc HzB HzS HzV]
  · isplitl [Hp Hc]
    · isplitl [Hp]
      · iexists _; iexact Hp
      · iexists _; iexact Hc
    isplitl [HzB]; · iexact HzB
    isplitl [HzS] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 16384 in
/-- The pipeline library's obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV, Hlev⟩, Hscr⟩, Ho, Hx, Hout⟩
  iapply (sound_body m ρ K c fun _ => bodyPost m ρ c)
  unfold bodyPre
  isplitr []
  · isplitl [Hg HcB HcV Hlev Hscr]
    · isplitl [Hg]; · iexact Hg
      isplitl [HcB]; · iexact HcB
      isplitl [HcV]; · iexact HcV
      isplitl [Hlev] <;> iassumption
    isplitl [Ho]; · iexact Ho
    isplitl [Hx] <;> iassumption
  · iintro H; iexact H

end Body

end Cert.KProof

end

end
-- ==== Proof.Launch.lean ====
/-
# The launch: the ghost state dealt, and the run of the whole program

The cells of all devices are opened at once, every device is dealt the tokens of the duties it pays and the credits of
the units it waits for, and the pipeline library's launch theorem makes the bodies' runs into one of the program.
-/
module

public import proofs.«01_k».proof.Proof.Body
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Transfers (shareTokN shareDrop shareTok)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens minted -/

def ringCells : Finset (GSem nD τ sig) := Finset.univ.map ⟨kcell, kcell_inj⟩

/-- The duties of a device's own cells: fifteen of its barrier's, one of each transfer's. -/
abbrev TK : Type := Fin 15 ⊕ OK
/-- The cell such a duty belongs to, and its name there. -/
abbrev tcell : TK → CK := Sum.elim (fun _ => .inl ()) .inr
abbrev tname : TK → Fin 15 := Sum.elim id (fun _ => 0)
abbrev tokOf (x : Dev nD × TK) : GSem nD τ sig × ℕ × Fin 15 := (kcell (x.1, tcell x.2), 0, tname x.2)

theorem tokOf_inj : Function.Injective tokOf := by
  rintro ⟨c, j⟩ ⟨c', j'⟩ h
  have h1 := kcell_inj (congrArg (fun x : GSem nD τ sig × ℕ × Fin 15 => x.1) h)
  have h2 : tname j = tname j' := congrArg (fun x : GSem nD τ sig × ℕ × Fin 15 => x.2.2) h
  have h3 : c = c' := congrArg Prod.fst h1
  have h4 : tcell j = tcell j' := congrArg Prod.snd h1
  subst h3
  rcases j with e | o <;> rcases j' with e' | o'
  · exact congrArg (fun e => (c, (Sum.inl e : TK))) h2
  · exact absurd h4 (fun h => by cases h)
  · exact absurd h4 (fun h => by cases h)
  · exact congrArg (fun o => (c, (Sum.inr o : TK))) (Sum.inr.inj h4)

def ringToks : Finset (GSem nD τ sig × ℕ × Fin 15) := Finset.univ.map ⟨tokOf, tokOf_inj⟩

def u₀ : UU :=
  (initOf (Pipeline.cells cfgs cellOf_inj) (Pipeline.launchToks cfgs cellOf_inj), initOf ringCells ringToks)

/-- The tokens of the duties of device `c`'s own cells. -/
def toks (c : Dev nD) : sProp 𝕄 := bigSep Finset.univ fun j : TK => dutyTok ER (kcell (c, tcell j)) 0 (tname j)

/-- The tokens of the duties device `c` pays. -/
def payToks (c : Dev nD) : sProp 𝕄 :=
  iprop((bigSep Finset.univ fun d => dutyTok ER (barCell (pe c d)) 0 d.rev)
    ∗ (bigSep Finset.univ fun d => dutyTok ER (sendCell c d) 0 0) ∗ (bigSep Finset.univ fun d => dutyTok ER (recvCell (pe c d) d) 0 0))

/-- Device `c`'s positions in its cells. -/
def poss (c : Dev nD) : sProp 𝕄 := bigSep Finset.univ fun k : CK => atPos ER (kcell (c, k)) 0 ∅ 0

/-- What the launch element deals device `c`; -/
def G (c : Dev nD) : sProp 𝕄 :=
  iprop((bigSep Finset.univ fun k : CK => roundState ER (ringRd m ρ) (kcell (c, k)) 0)
    ∗ (bigSep Finset.univ fun k : CK => reached ER (kcell (c, k)) 0) ∗ poss c ∗ toks c)

/-- what the opening of the cells makes of it. -/
def G' (c : Dev nD) : sProp 𝕄 := iprop(∃ K, ghost m ρ K c)

omit [FloatOps F] in
/-- A property of every cell of a device: of its barrier's, of its sends' and of its receives'. -/
theorem split_ck (Φ : CK → sProp 𝕄) : bigSep Finset.univ Φ
    = iprop(Φ (.inl ()) ∗ (bigSep Finset.univ fun d => Φ (.inr (.inl d))) ∗ (bigSep Finset.univ fun d => Φ (.inr (.inr d)))) := by
  rw [bigSep_univ_sum, bigSep_univ_of_subsingleton (), bigSep_univ_sum]
  rfl

omit [FloatOps F] in
theorem split_tk (Φ : TK → sProp 𝕄) : bigSep Finset.univ Φ
    = iprop((bigSep Finset.univ fun e => Φ (.inl e)) ∗ (bigSep Finset.univ fun d => Φ (.inr (.inl d))) ∗ (bigSep Finset.univ fun d => Φ (.inr (.inr d)))) := by
  rw [bigSep_univ_sum, bigSep_univ_sum]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat']; · iexact Hat'
  iexact Htok'

/-! ## The semaphores opened as cells -/

/-- The counters a launch scopes for the kernel, at zero. -/
abbrev own0s (c : Dev nD) : sProp 𝕄 := Pipeline.ownSems0 (Ix := Unit) (Name := ℕ) (U := UU) (Lvl := ℕ) (Val := Elt F) (τ := τ) osem c

omit [FloatOps F] in
theorem own0s_eq (c : Dev nD) : (own0s c : sProp 𝕄)
    = iprop((bigSep Finset.univ fun d => semVal (sendCell c d) 0) ∗ (bigSep Finset.univ fun d => semVal (recvCell c d) 0)) := by
  unfold own0s Pipeline.ownSems0
  rw [bigSep_univ_sum]
  rfl

omit [FloatOps F] in
/-- The barrier semaphore is the one counter no launch scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(own0s c ∗ unscopedSems0 c) ⊢ (bigSep Finset.univ fun k : CK => semVal (kcell (c, k)) 0 : sProp 𝕄) := by
  rw [own0s_eq, unscopedSems0_eq, split_ck]
  iintro ⟨⟨HS, HV⟩, HB⟩
  isplitl [HB]; · iexact HB
  isplitl [HS]; · iexact HS
  iexact HV

/-- Each counter with its cell's state becomes an invariant. -/
theorem cells_open (c : Dev nD) :
    iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) := by
  rw [← bigSep_sep']
  exact (bigSep_mono fun k _ => (Rounds.body_intro ER (ringRd m ρ) (kcell (c, k))).trans inv_alloc).trans (bigSep_fupd _ _)

/-- A device's share of the ghost state, its cells open. -/
def opened (c : Dev nD) : sProp 𝕄 :=
  iprop((bigSep Finset.univ fun k : CK => iprop(∃ κ : ℕ, cellInv ER (ringRd m ρ) κ (kcell (c, k))))
    ∗ (bigSep Finset.univ fun k : CK => reached ER (kcell (c, k)) 0) ∗ poss c ∗ toks c)

theorem core_alloc (c : Dev nD) : iprop(own0s c ∗ unscopedSems0 c ∗ G m ρ c) ⊢ |={Set.univ}=> opened m ρ c := by
  unfold G opened
  iintro ⟨Hos, Hus, Hst, Hrest⟩
  ihave Hv := (sems0_eq (F := F) c) $$ [Hos Hus]
  · isplitl [Hos] <;> iassumption
  imod (cells_open m ρ c) $$ [Hv Hst] with Hinv
  · isplitl [Hv] <;> iassumption
  imodintro
  isplitl [Hinv]; · iexact Hinv
  iexact Hrest

omit [FloatOps F] in
/-- Something of every device and distance, each taken from the device at that distance instead. -/
theorem deal (Φ : Dev nD → Fin 15 → sProp 𝕄) :
    (bigSep Finset.univ fun c => bigSep Finset.univ fun d => Φ c d) = bigSep Finset.univ fun c => bigSep Finset.univ fun d => Φ (pe c d) d := by
  rw [bigSep_univ_comm, bigSep_univ_comm (fun c d => Φ (pe c d) d)]
  exact bigSep_congr fun d _ => bigSep_univ_equiv (peE d) (fun c => Φ c d)

omit [FloatOps F] in
/-- Every duty's token goes to the device that pays the duty. -/
theorem toks_around : (bigSep Finset.univ fun c : Dev nD => (toks c : sProp 𝕄)) ⊢ bigSep Finset.univ fun c : Dev nD => payToks c := by
  unfold toks payToks
  simp only [split_tk, bigSep_sep']
  iintro ⟨HB, HS, HV⟩
  isplitl [HB]
  · iapply (show (bigSep Finset.univ fun c : Dev nD => bigSep Finset.univ fun e => (dutyTok ER (barCell c) 0 e : sProp 𝕄))
        ⊢ bigSep Finset.univ fun c : Dev nD => bigSep Finset.univ fun d => dutyTok ER (barCell (pe c d)) 0 d.rev from Entails.of_eq (by
          rw [← deal fun c d => dutyTok ER (barCell c) 0 d.rev]
          exact bigSep_congr fun c _ => bigSep_univ_equiv (Fin.revPerm : Equiv.Perm (Fin 15)) (fun e => dutyTok ER (barCell c) 0 e)))
    iexact HB
  isplitl [HS]; · iexact HS
  iapply (show (bigSep Finset.univ fun c : Dev nD => bigSep Finset.univ fun d => (dutyTok ER (recvCell c d) 0 0 : sProp 𝕄))
      ⊢ bigSep Finset.univ fun c : Dev nD => bigSep Finset.univ fun d => dutyTok ER (recvCell (pe c d) d) 0 0 from
    Entails.of_eq (deal fun c d => dutyTok ER (recvCell c d) 0 0))
  iexact HV

theorem ghost_intro (K : Dev nD × CK → ℕ) (c : Dev nD) : iprop(records m ρ K ∗ (poss c ∗ payToks c)) ⊢ G' m ρ c := by
  unfold poss payToks G' ghost
  rw [split_ck]
  iintro ⟨HR, ⟨HaB, HaS, HaV⟩, Ht⟩
  iexists K
  isplitl [HR]; · iexact HR
  isplitl [HaB]; · iexact HaB
  isplitl [HaS]; · iexact HaS
  isplitl [HaV]; · iexact HaV
  iexact Ht

/-- Every device keeps a copy of the records with what is its own. -/
theorem ghost_all (K : Dev nD × CK → ℕ) : iprop(records m ρ K ∗ bigSep Finset.univ fun c : Dev nD => iprop(poss c ∗ payToks c)) ⊢ bigSep Finset.univ (G' m ρ) :=
  (sep_mono_left (BI.bigSep_of_persistent Finset.univ (records m ρ K))).trans
    (by rw [← bigSep_sep']; exact bigSep_mono fun c _ => ghost_intro m ρ K c)

theorem regroup : (bigSep Finset.univ (opened m ρ) : sProp 𝕄) ⊢ bigSep Finset.univ (G' m ρ) := by
  unfold opened
  rw [bigSep_sep', bigSep_sep', bigSep_sep', ← bigSep_univ_prod (fun ck : Dev nD × CK => iprop(∃ κ : ℕ, cellInv ER (ringRd m ρ) κ (kcell ck))),
    ← bigSep_univ_prod (fun ck : Dev nD × CK => (reached ER (kcell ck) 0 : sProp 𝕄))]
  iintro ⟨HI, HR, Hat, Htok⟩
  ihave HK := (BI.bigSep_exists_pi Finset.univ (fun (ck : Dev nD × CK) (κ : ℕ) => (cellInv ER (ringRd m ρ) κ (kcell ck) : sProp 𝕄))) $$ HI
  icases HK with ⟨%K, HI⟩
  ihave Htk := (toks_around (F := F)) $$ Htok
  iapply (ghost_all m ρ K)
  unfold records
  rw [bigSep_sep', bigSep_sep']
  isplitl [HI HR]
  · isplitl [HI] <;> iassumption
  isplitl [Hat]; · iexact Hat
  iexact Htk

/-- All the devices' semaphores opened at once. -/
theorem glob : (bigSep Finset.univ fun c => iprop(own0s c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem kcell_tally (c c' : Dev nD) (k k' : CK) (n : ℕ) :
    (tallyAt (kcell (c, k)) () n : CellTallies nD τ sig Unit) (kcell (c', k')) () = if c = c' ∧ k = k' then n else 0 := by
  rw [tallyAt_apply]
  refine if_congr ⟨fun h => ?_, fun h => ?_⟩ rfl rfl
  · have := kcell_inj h.1
    exact ⟨(congrArg Prod.fst this).symm, (congrArg Prod.snd this).symm⟩
  · rw [h.1, h.2]; exact ⟨rfl, rfl⟩

omit [FloatOps F] in
/-- Over all devices `x`, how often the device at distance `j` of `x` is `c`: once. -/
theorem sum_pe (c : Dev nD) (j : Fin 15) (n : ℕ) : (∑ x : Dev nD, if pe x j = c then n else 0) = n := by
  rw [Finset.sum_congr rfl (g := fun x : Dev nD => if x = so c j then n else 0) (fun x _ => if_congr ⟨fun h => ?_, fun h => ?_⟩ rfl rfl),
    Finset.sum_ite_eq' Finset.univ (so c j) fun _ => n, if_pos (Finset.mem_univ _)]
  · rw [← h]; exact (so_pe x j).symm
  · rw [h]; exact pe_so c j

omit [FloatOps F] in
/-- What device `x` owes a cell `k` of device `c`. -/
theorem owed_k (x c : Dev nD) (k : CK) : O₀ x (kcell (c, k)) ()
    = (∑ j : Fin 15, if pe x j = c ∧ (Sum.inr (.inr j) : CK) = k then N else 0) + ∑ j : Fin 15, if pe x j = c ∧ (Sum.inl () : CK) = k then 1 else 0 := by
  unfold O₀ OR OB
  rw [Pi.add_apply, Finsupp.add_apply, finFrom_zero, Finset.sum_apply, Finset.sum_apply, Finsupp.finset_sum_apply, Finsupp.finset_sum_apply]
  exact congrArg₂ (· + ·) (Finset.sum_congr rfl fun j _ => kcell_tally (pe x j) c (.inr (.inr j)) k N)
    (Finset.sum_congr rfl fun j _ => kcell_tally (pe x j) c (.inl ()) k 1)

omit [FloatOps F] in
/-- A sum over devices and distances in which only the distances `j` with `p j` count. -/
theorem sum_pe_if (c : Dev nD) (p : Fin 15 → Prop) [DecidablePred p] (n : ℕ) :
    (∑ x : Dev nD, ∑ j : Fin 15, if pe x j = c ∧ p j then n else 0) = ∑ j : Fin 15, if p j then n else 0 := by
  rw [Finset.sum_comm]
  refine Finset.sum_congr rfl fun j _ => ?_
  by_cases h : p j
  · simp only [h, and_true, if_true]
    exact sum_pe c j n
  · simp only [h, and_false, if_false, Finset.sum_const_zero]

omit [FloatOps F] in
theorem owed_sum (c : Dev nD) (k : CK) : (∑ x : Dev nD, O₀ x (kcell (c, k)) ())
    = (∑ j : Fin 15, if (Sum.inr (.inr j) : CK) = k then N else 0) + ∑ j : Fin 15, if (Sum.inl () : CK) = k then 1 else 0 := by
  rw [Finset.sum_congr rfl fun x _ => owed_k x c k, Finset.sum_add_distrib]
  exact congrArg₂ (· + ·) (sum_pe_if c (fun j => (Sum.inr (.inr j) : CK) = k) N) (sum_pe_if c (fun _ => (Sum.inl () : CK) = k) 1)

omit [FloatOps F] in
theorem owed_bar (c : Dev nD) : (∑ x : Dev nD, O₀ x (kcell (c, .inl ())) ()) = 15 := by
  rw [owed_sum, Finset.sum_eq_zero (fun j _ => if_neg (fun h => by cases h)), Finset.sum_congr rfl (g := fun _ : Fin 15 => 1) (fun j _ => if_pos rfl),
    Finset.sum_const, Finset.card_univ, Fintype.card_fin]
  rfl

omit [FloatOps F] in
theorem owed_recv (c : Dev nD) (d : Fin 15) : (∑ x : Dev nD, O₀ x (kcell (c, .inr (.inr d))) ()) = N := by
  rw [owed_sum, Finset.sum_eq_zero (f := fun j : Fin 15 => if (Sum.inl () : CK) = .inr (.inr d) then 1 else 0) (fun j _ => if_neg (fun h => by cases h)),
    Nat.add_zero, Finset.sum_congr rfl (g := fun j : Fin 15 => if j = d then N else 0)
      (fun j _ => if_congr ⟨fun h => Sum.inr.inj (Sum.inr.inj h), fun h => congrArg (fun j => (Sum.inr (.inr j) : CK)) h⟩ rfl rfl),
    Finset.sum_ite_eq' Finset.univ d fun _ => N, if_pos (Finset.mem_univ _)]

omit [FloatOps F] in
theorem launch_k (c : Dev nD) (k : CK) {n : ℕ} (h : (∑ x : Dev nD, O₀ x (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

omit [FloatOps F] in
/-- Each device starts with the credits of its barrier's units and of its receives. -/
theorem creds (c : Dev nD) :
    (Pipeline.launchCred O₀ c : sProp 𝕄) ⊢ iprop(cred (tallyAt (barCell c) () 15) ∗ bigSep Finset.univ fun d => cred (tallyAt (recvCell c d) () N)) := by
  unfold Pipeline.launchCred
  refine (bigSep_subset (Finset.subset_univ (Finset.univ.map ⟨csem, csem_inj⟩))).trans ?_
  rw [bigSep_map, split_ck]
  refine (show _ ⊢ iprop(cred (tallyOn (kcell (c, .inl ())) (launchCredit (Pipeline.owing O₀) 0 (kcell (c, .inl ()))))
    ∗ (bigSep Finset.univ fun d : Fin 15 => cred (tallyOn (kcell (c, .inr (.inl d))) (launchCredit (Pipeline.owing O₀) 0 (kcell (c, .inr (.inl d))))))
    ∗ (bigSep Finset.univ fun d : Fin 15 => cred (tallyOn (kcell (c, .inr (.inr d))) (launchCredit (Pipeline.owing O₀) 0 (kcell (c, .inr (.inr d))))))) from Entails.rfl).trans ?_
  rw [launch_k c (.inl ()) (owed_bar c), bigSep_congr (s := Finset.univ) fun (d : Fin 15) _ => congrArg cred (launch_k c (.inr (.inr d)) (owed_recv c d))]
  iintro ⟨HB, -, HV⟩
  isplitl [HB]; · iexact HB
  iexact HV

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  refine .trans ?_ (sep_mono_right (sep_mono_left (Entails.of_eq (own0s_eq c).symm)))
  unfold Φ₁ scr
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of the pipeline holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the sixteen
    devices ends, with each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds after the run what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof

end

end
-- ==== Proof.First.lean ====
/-
# Where a column first attains its maximum

Both programs find, for a column of extended reals, its maximum and the first row holding it. `First X n` says that
`n` is that row; every column has exactly one. Folds of maxima and minima are read off from it, and so is a fold of
(value, index) pairs that keeps the better of two.
-/
module

public import Idealize.ShloMosaic.PureOps.Ideal.Laws
public import Mathlib.Data.Finset.Fold
public import Mathlib.Data.Finset.Max

@[expose] public section

namespace Cert.KProof

open Idealize.ShloMosaic

/-! ## Folds of maxima and minima -/

/-- A fold of `max` is the largest value, if the start is no larger. -/
theorem fold_max_eq {ι α : Type} [LinearOrder α] {s : Finset ι} {b a : α} {f : ι → α} {i : ι} (hi : i ∈ s) (hf : f i = a)
    (hs : ∀ k ∈ s, f k ≤ a) (hb : b ≤ a) : s.fold max b f = a :=
  le_antisymm ((Finset.fold_max_le a).mpr ⟨hb, hs⟩) ((Finset.le_fold_max a).mpr (.inr ⟨i, hi, hf.ge⟩))

/-- A fold of `min` is the least value, if the start is no less. -/
theorem fold_min_eq {ι α : Type} [LinearOrder α] {s : Finset ι} {b a : α} {f : ι → α} {i : ι} (hi : i ∈ s) (hf : f i = a)
    (hs : ∀ k ∈ s, a ≤ f k) (hb : a ≤ b) : s.fold min b f = a :=
  le_antisymm ((Finset.fold_min_le a).mpr (.inr ⟨i, hi, hf.le⟩)) ((Finset.le_fold_min a).mpr ⟨hb, hs⟩)

/-- The lesser of two words is the one whose signed value is the lesser. -/
theorem minsi_toInt {w : ℕ} (a b : BitVec w) : (IntOp.minsi a b).toInt = min a.toInt b.toInt := by
  simp only [IntOp.minsi, BitVec.slt, decide_eq_true_eq]
  split_ifs with h
  · exact (min_eq_left h.le).symm
  · exact (min_eq_right (not_lt.mp h)).symm

/-- A fold of words taking the lesser is the least word. -/
theorem fold_minsi_eq {ι : Type} {s : Finset ι} {b a : BitVec 32} {f : ι → BitVec 32} {i : ι} (hi : i ∈ s) (hf : f i = a)
    (hs : ∀ k ∈ s, a.toInt ≤ (f k).toInt) (hb : a.toInt ≤ b.toInt) : s.fold IntOp.minsi b f = a := by
  refine BitVec.eq_of_toInt_eq ?_
  rw [← Finset.fold_hom (m := BitVec.toInt) (op' := min) (fun x y => minsi_toInt x y)]
  exact fold_min_eq (f := fun k => (f k).toInt) hi (congrArg BitVec.toInt hf) hs hb

/-- A small number's word has that number as its signed value. -/
theorem toInt_ofNat {n : ℕ} (h : n < 2147483648) : (BitVec.ofNat 32 n).toInt = n := by
  rw [BitVec.toInt_eq_toNat_of_lt (by rw [BitVec.toNat_ofNat]; omega), BitVec.toNat_ofNat, Nat.mod_eq_of_lt (by omega)]

/-! ## The first row of the maximum -/

/-- Row `n` is the first in which the column `X` attains its maximum. -/
def First {N : ℕ} (X : Fin N → EReal) (n : Fin N) : Prop := ∀ k, X k ≤ X n ∧ (X k = X n → n ≤ k)

/-- There is such a row; -/
theorem exists_first {N : ℕ} (X : Fin N → EReal) (h0 : 0 < N) : ∃ n, First X n := by
  obtain ⟨t, -, ht⟩ := Finset.exists_max_image Finset.univ X ⟨⟨0, h0⟩, Finset.mem_univ _⟩
  obtain ⟨n, hn, hmin⟩ := Finset.exists_min_image (Finset.univ.filter fun k => X k = X t) id ⟨t, Finset.mem_filter.mpr ⟨Finset.mem_univ _, rfl⟩⟩
  have hnt : X n = X t := (Finset.mem_filter.mp hn).2
  refine ⟨n, fun k => ⟨?_, fun hk => ?_⟩⟩
  · rw [hnt]; exact ht k (Finset.mem_univ k)
  · exact hmin k (Finset.mem_filter.mpr ⟨Finset.mem_univ k, hk.trans hnt⟩)

/-- and no other. -/
theorem First.unique {N : ℕ} {X : Fin N → EReal} {n n' : Fin N} (h : First X n) (h' : First X n') : n = n' :=
  have e : X n = X n' := le_antisymm (h' n).1 (h n').1
  le_antisymm ((h n').2 e.symm) ((h' n).2 e)

/-- A column's maximum is its value there. -/
theorem First.fold_max {N : ℕ} {X : Fin N → EReal} {n : Fin N} (h : First X n) : Finset.univ.fold max ⊥ X = X n :=
  fold_max_eq (Finset.mem_univ n) rfl (fun k _ => (h k).1) bot_le

/-- The least word among the numbers of the rows holding the maximum, the largest word standing for the other rows, is
    that row's number. -/
theorem First.fold_minsi {N : ℕ} (hN : N ≤ 2147483647) {X : Fin N → EReal} {n : Fin N} (h : First X n) :
    Finset.univ.fold IntOp.minsi 2147483647#32 (fun k : Fin N => if X k = X n then BitVec.ofNat 32 k.val else 2147483647#32)
      = BitVec.ofNat 32 n.val := by
  have hn : n.val < 2147483647 := by have := n.isLt; omega
  have hbig : (BitVec.ofNat 32 n.val).toInt ≤ (2147483647#32 : BitVec 32).toInt := by
    rw [toInt_ofNat (by omega), show (2147483647#32 : BitVec 32).toInt = 2147483647 from by decide]
    omega
  refine fold_minsi_eq (Finset.mem_univ n) (if_pos rfl) (fun k _ => ?_) hbig
  show _ ≤ (if X k = X n then BitVec.ofNat 32 k.val else 2147483647#32).toInt
  split_ifs with hk
  · have hle := Fin.le_def.mp ((h k).2 hk)
    have hkl := k.isLt
    rw [toInt_ofNat (by omega), toInt_ofNat (by omega)]
    exact Int.ofNat_le.mpr hle
  · exact hbig

/-! ## A fold of pairs that keeps the better -/

/-- The pair `p` is at least as good as `q`: a larger value, or the same value and no larger an index. -/
def Better (p q : EReal × BitVec 32) : Prop := q.1 < p.1 ∨ (q.1 = p.1 ∧ p.2.toInt ≤ q.2.toInt)

theorem Better.refl (p : EReal × BitVec 32) : Better p p := .inr ⟨rfl, le_refl _⟩

theorem Better.trans {p q r : EReal × BitVec 32} (h : Better p q) (h' : Better q r) : Better p r := by
  rcases h with h | ⟨h, hi⟩
  · rcases h' with h' | ⟨h', -⟩
    · exact .inl (h'.trans h)
    · exact .inl (h'.trans_lt h)
  · rcases h' with h' | ⟨h', hi'⟩
    · exact .inl (h'.trans_eq h)
    · exact .inr ⟨h'.trans h, hi.trans hi'⟩

/-- A fold of a choice of the better of two pairs yields one of the pairs (the start among them), as good as each. -/
theorem foldl_better {f : EReal × BitVec 32 → EReal × BitVec 32 → EReal × BitVec 32}
    (hf : ∀ a b, (f a b = a ∨ f a b = b) ∧ Better (f a b) a ∧ Better (f a b) b) :
    ∀ (l : List (EReal × BitVec 32)) (i : EReal × BitVec 32),
      (l.foldl f i = i ∨ l.foldl f i ∈ l) ∧ Better (l.foldl f i) i ∧ ∀ q ∈ l, Better (l.foldl f i) q
  | [], i => ⟨.inl rfl, .refl i, fun q hq => absurd hq List.not_mem_nil⟩
  | p :: l, i => by
    obtain ⟨h1, h2, h3⟩ := foldl_better hf l (f i p)
    obtain ⟨g1, g2, g3⟩ := hf i p
    refine ⟨?_, h2.trans g2, fun q hq => ?_⟩
    · rcases h1 with h1 | h1
      · rcases g1 with g1 | g1
        · exact .inl (h1.trans g1)
        · exact .inr (by rw [List.foldl_cons, h1, g1]; exact List.mem_cons_self)
      · exact .inr (List.mem_cons_of_mem _ h1)
    · rcases List.mem_cons.mp hq with rfl | hq
      · exact h2.trans g3
      · exact h3 q hq

/-- So a fold over the (value, row number) pairs of a column, in any order and from the least value and row 0, ends at the
    first row of the maximum. -/
theorem First.foldl {N : ℕ} (hN : N ≤ 2147483647) {X : Fin N → EReal} {n : Fin N} (h : First X n)
    {f : EReal × BitVec 32 → EReal × BitVec 32 → EReal × BitVec 32}
    (hf : ∀ a b, (f a b = a ∨ f a b = b) ∧ Better (f a b) a ∧ Better (f a b) b)
    (l : List (EReal × BitVec 32)) (hl : ∀ q, q ∈ l ↔ ∃ k : Fin N, q = (X k, BitVec.ofNat 32 k.val)) :
    (l.foldl f (⊥, 0#32)).2 = BitVec.ofNat 32 n.val := by
  obtain ⟨h1, h2, h3⟩ := foldl_better hf l (⊥, 0#32)
  have hlt : ∀ k : Fin N, (BitVec.ofNat 32 k.val).toInt = k.val := fun k => toInt_ofNat (by have := k.isLt; omega)
  have hb := h3 _ ((hl _).mpr ⟨n, rfl⟩)
  rcases h1 with h1 | h1
  · -- the start is kept only if every value is the least
    rw [h1]
    rcases hb with hb | ⟨hb, -⟩
    · rw [h1] at hb; exact absurd hb not_lt_bot
    · rw [h1] at hb
      have h0 : 0 < N := Nat.lt_of_le_of_lt (Nat.zero_le _) n.isLt
      have hn : X n = ⊥ := hb
      have hz : n ≤ ⟨0, h0⟩ := (h ⟨0, h0⟩).2 (le_antisymm (h _).1 (hn.le.trans bot_le))
      have hv : n.val = 0 := Nat.le_zero.mp (Fin.le_def.mp hz)
      rw [hv]
  · obtain ⟨k, hk⟩ := (hl _).mp h1
    rw [hk] at hb ⊢
    rcases hb with hb | ⟨hb, hi⟩
    · exact absurd hb (not_lt.mpr (h k).1)
    · have hi' : (BitVec.ofNat 32 k.val).toInt ≤ (BitVec.ofNat 32 n.val).toInt := hi
      rw [hlt, hlt] at hi'
      have hkn : k ≤ n := Fin.le_def.mpr (Int.ofNat_le.mp hi')
      rw [le_antisymm hkn ((h k).2 (Eq.symm hb))]

/-! ## The maximum over blocks -/

/-- A column cut into blocks of `B` rows: the block of the first row of the maximum has it as its own first row of the
    maximum, -/
theorem First.block {N B : ℕ} {X : Fin N → EReal} {n : Fin N} (h : First X n) {g : Fin B → Fin N} (hg : StrictMono g) {r : Fin B} (hr : g r = n) :
    First (fun k => X (g k)) r := by
  subst hr
  exact fun k => ⟨(h (g k)).1, fun hk => hg.le_iff_le.mp ((h (g k)).2 hk)⟩

end Cert.KProof

end
-- ==== Proof.Combine.lean ====
/-
# The maximum of the blocks' maxima

A column of 32768 rows in sixteen blocks of 2048: the sixteen blocks' first maxima, in any order, give the column's. The
largest of the sixteen values is the column's maximum; and the least row number among the blocks reaching it is the
first row holding it.
-/
module

public import proofs.«01_k».proof.Proof.First

@[expose] public section

namespace Cert.KProof

open Idealize.ShloMosaic

/-- Row `r` of block `c`. -/
def rowOf (c : Fin 16) (r : Fin 2048) : Fin 32768 := ⟨c.val * 2048 + r.val, by have := c.isLt; have := r.isLt; omega⟩

theorem rowOf_mono (c : Fin 16) : StrictMono (rowOf c) := fun a b h =>
  Fin.lt_def.mpr (Nat.add_lt_add_left (Fin.lt_def.mp h) _)

/-- Every row is a row of some block. -/
theorem exists_rowOf (k : Fin 32768) : ∃ c r, rowOf c r = k :=
  ⟨⟨k.val / 2048, by have := k.isLt; omega⟩, ⟨k.val % 2048, Nat.mod_lt _ (by omega)⟩,
    Fin.ext (by show k.val / 2048 * 2048 + k.val % 2048 = k.val; omega)⟩

/-- Row numbers are ordered as extended reals as they are as numbers. -/
theorem natCast_le {a b : ℕ} (h : a ≤ b) : (((a : ℝ)) : EReal) ≤ ((b : ℝ) : EReal) := EReal.coe_le_coe (Nat.cast_le.mpr h)

variable {X : Fin 32768 → EReal} {n : Fin 32768} {r : Fin 16 → Fin 2048} {e : Fin 16 → Fin 16}

/-- The block holding the column's first maximum has it as its own. -/
theorem block_of_first (h : First X n) (hr : ∀ c, First (fun k => X (rowOf c k)) (r c)) : ∃ c, rowOf c (r c) = n := by
  obtain ⟨c, k, hk⟩ := exists_rowOf n
  exact ⟨c, by rw [(hr c).unique (h.block (rowOf_mono c) hk), hk]⟩

/-- The largest of the sixteen blocks' maxima is the column's. -/
theorem combine_max (he : ∀ c, ∃ t, e t = c) (h : First X n) (hr : ∀ c, First (fun k => X (rowOf c k)) (r c)) :
    Finset.univ.fold max ⊥ (fun t => X (rowOf (e t) (r (e t)))) = X n := by
  obtain ⟨c, hc⟩ := block_of_first h hr
  obtain ⟨t, rfl⟩ := he c
  exact fold_max_eq (Finset.mem_univ t) (congrArg X hc) (fun k _ => (h _).1) bot_le

/-- The least row number among the blocks whose maximum is the column's, a large number standing for the other blocks, is
    the column's first maximum's. -/
theorem combine_min (he : ∀ c, ∃ t, e t = c) (h : First X n) (hr : ∀ c, First (fun k => X (rowOf c k)) (r c)) {big : EReal}
    (hbig : ∀ k : Fin 32768, ((k.val : ℝ) : EReal) ≤ big) :
    Finset.univ.fold min ⊤ (fun t => if X (rowOf (e t) (r (e t))) = X n then (((rowOf (e t) (r (e t))).val : ℝ) : EReal) else big)
      = ((n.val : ℝ) : EReal) := by
  obtain ⟨c, hc⟩ := block_of_first h hr
  obtain ⟨t, rfl⟩ := he c
  refine fold_min_eq (Finset.mem_univ t) ?_ (fun k _ => ?_) le_top
  · rw [hc, if_pos rfl]
  · show _ ≤ (if X (rowOf (e k) (r (e k))) = X n then (((rowOf (e k) (r (e k))).val : ℝ) : EReal) else big)
    split_ifs with hk
    · exact natCast_le (Fin.le_def.mp ((h _).2 hk))
    · exact hbig n

end Cert.KProof

end
-- ==== Proof.Local.lean ====
/-
# What one device stores, and what it makes of the sixteen rows, on the extended reals

The column maximum of a device's block and its first row; and, from sixteen such pairs, the largest value and the least
row number among those holding it — each read off at one column.
-/
module

public import proofs.«01_k».proof.Proof.Gen.KernelIdeal.Skeleton
public import proofs.«01_k».proof.Proof.Combine
public import Idealize.ShloMosaic.Lib.ValueLayout
public import Idealize.ShloMosaic.Lib.Pipeline.Value

@[expose] public section

set_option maxRecDepth 16384

noncomputable section

namespace Cert.KProof

open Cert.KernelIdeal Cert.KernelIdeal.Gen
open Idealize.ShloMosaic Idealize.ShloMosaic.ValueIdx

/-! ## Constants and comparisons -/

/-- The pattern of minus infinity is the least value, -/
theorem ofBits_bot : (FloatOps.ofBits .f32 0xFF800000#32 : Ideal .f32) = (⊥ : EReal) := by
  show Ideal.ofBits .f32 _ = _
  simp [Ideal.ofBits, Ideal.ieee]

/-- that of infinity the greatest, -/
theorem ofBits_top : (FloatOps.ofBits .f32 0x7F800000#32 : Ideal .f32) = (⊤ : EReal) := by
  show Ideal.ofBits .f32 _ = _
  simp [Ideal.ofBits, Ideal.ieee]

/-- and the kernel's large constant is above every row number. -/
theorem le_big (k : Fin 32768) : ((k.val : ℝ) : EReal) ≤ (FloatOps.ofBits .f32 0x7F61B1E6#32 : Ideal .f32) := by
  show _ ≤ Ideal.ofBits .f32 _
  have hk : (k.val : ℝ) ≤ 32768 := by exact_mod_cast k.isLt.le
  simp [Ideal.ofBits, Ideal.ieee, -EReal.coe_mul]
  refine EReal.coe_le_coe (hk.trans ?_)
  norm_num

/-- A select on an equality of extended reals is a choice by that equality. -/
theorem select_oeq {α : Type} (a b : EReal) (x y : α) :
    Scalar.select (FloatOps.cmpf (F := Ideal) (φ := .f32) .oeq a b) x y = if a = b then x else y := by
  show (if (BitVec.ofBool (decide (a = b))) = 1#1 then x else y) = _
  by_cases h : a = b <;> simp [h]

/-- A choice by an equality, rewritten in its parts. -/
theorem ite_oeq {p p' q q' y y' : EReal} (hp : p = p') (hq : q = q') (hy : y = y') (z : EReal) :
    (if p = q then y else z) = if p' = q' then y' else z := by subst hp hq hy; rfl

/-- The element of a block that reduces into column `j` from row `k` is `(k, j)`: of a device's block, -/
theorem lift_block (j : Fin 1024) (k : Fin 2048) : reduces_S2048x1024_S1024.lift (ix1 j) k = ix2 k j :=
  funext fun ax => match ax with
    | ⟨0, _⟩ => rfl
    | ⟨1, _⟩ => rfl

/-- and of the sixteen rows stacked. -/
theorem lift_stack (j : Fin 1024) (k : Fin 16) : reduces_S16x1024_S1024.lift (ix1 j) k = ix2 k j :=
  funext fun ax => match ax with
    | ⟨0, _⟩ => rfl
    | ⟨1, _⟩ => rfl

/-! ## One device's pair of rows -/

variable (x : S2048x1024.Idx → EReal) {j : Fin 1024} {n : Fin 2048}

/-- The column maximum of the block. -/
theorem pay2_apply (h : First (fun k : Fin 2048 => x (ix2 k j)) n) (u : Fin 1) : k0_pay2 (F := Ideal) x (ix2 u j) = x (ix2 n j) := by
  unfold k0_pay2 k0_pay1
  rw [shapeCast_self]
  refine (shapeCast_a_1a_apply _ _ u j).trans ?_
  refine (Ideal.multiReduction_maximumf_single _ _ _ _ _ _).trans ?_
  rw [ofBits_bot]
  refine Eq.trans (Finset.fold_congr fun k _ => ?_) h.fold_max
  exact congrArg x (lift_block j k)

/-- What is stored in row 0: that maximum; -/
theorem pay3_apply (h : First (fun k : Fin 2048 => x (ix2 k j)) n) (u : Fin 1) : k0_pay3 (F := Ideal) x (ix2 u j) = x (ix2 n j) := by
  unfold k0_pay3
  rw [shapeCast_self]
  exact pay2_apply x h u

/-- and in row 1: its first row, counted from the beginning of the whole column. -/
theorem pay4_apply (h : First (fun k : Fin 2048 => x (ix2 k j)) n) (c : Fin 16) (u : Fin 1) :
    k0_pay4 (F := Ideal) (BitVec.ofNat 32 c.val) x (ix2 u j) = (((rowOf c n).val : ℝ) : EReal) := by
  have hlt := n.isLt
  have hc := c.isLt
  have e : multiReductionI .minsi [0] S1024 (select (cmpf (F := Ideal) (φ := .f32) .oeq x (broadcastTo S2048x1024 (k0_pay2 (F := Ideal) x) broadcasts_S1x1024_S2048x1024))
        (iota .tc S2048x1024 32 [0] iota_S2048x1024_d0_w32) (broadcast S2048x1024 2147483647#32)) 2147483647#32 reduces_S2048x1024_S1024 rfl (ix1 j)
      = BitVec.ofNat 32 n.val := by
    refine (multiReductionI_eq_fold _ _ _ _ _ _).trans ?_
    refine (Shape.Reduces.fold_filter_drop_single reduces_S2048x1024_S1024 IntOp.minsi _ _ (ix1 j)).trans ?_
    refine Eq.trans ?_ (h.fold_minsi (by omega))
    refine Finset.fold_congr fun k _ => ?_
    refine (congrArg _ (lift_block j k)).trans ?_
    refine (select_oeq (x (ix2 k j)) (broadcastTo S2048x1024 (k0_pay2 (F := Ideal) x) broadcasts_S1x1024_S2048x1024 (ix2 k j)) _ _).trans ?_
    rw [show broadcastTo S2048x1024 (k0_pay2 (F := Ideal) x) broadcasts_S1x1024_S2048x1024 (ix2 k j) = x (ix2 n j) from
      (broadcastTo_1b_ab_apply (k0_pay2 (F := Ideal) x) broadcasts_S1x1024_S2048x1024 k j).trans (pay2_apply x h 0), iota_single_apply]
    rfl
  unfold k0_pay4 k0_pay1
  rw [shapeCast_self, shapeCast_self]
  show (((((shapeCast S1x1024 _ shapeCasts_S1024_S1x1024 (ix2 u j) : BitVec 32) + BitVec.ofNat 32 c.val * 2048#32 : BitVec 32)).toInt : ℝ) : EReal) = _
  rw [shapeCast_a_1a_apply, e]
  have hv : (BitVec.ofNat 32 n.val + BitVec.ofNat 32 c.val * 2048#32 : BitVec 32) = BitVec.ofNat 32 (rowOf c n).val := by
    refine BitVec.eq_of_toNat_eq ?_
    simp only [BitVec.toNat_add, BitVec.toNat_mul, BitVec.toNat_ofNat, rowOf]
    omega
  rw [hv, toInt_ofNat (by have := (rowOf c n).isLt; omega)]
  exact congrArg (fun r : ℝ => (r : EReal)) (Int.cast_natCast _)

/-! ## Of sixteen pairs -/

/-- The sixteen entries of column `j`: the device's own first, then the fifteen received. -/
def entries (a : S1x1024.Idx → EReal) (b : S15x1x1024.Idx → EReal) (j : Fin 1024) : Fin 16 → EReal :=
  Fin.cons (a (ix2 0 j)) fun d : Fin 15 => b (ix3 d 0 j)

/-- They are a function's values if they are so one by one. -/
theorem entries_eq (a : S1x1024.Idx → EReal) (b : S15x1x1024.Idx → EReal) (j : Fin 1024) (f : Fin 16 → EReal) (h0 : a (ix2 0 j) = f 0)
    (hs : ∀ d : Fin 15, b (ix3 d 0 j) = f d.succ) : entries a b j = f := by
  funext t
  induction t using Fin.cases with
  | zero => exact h0
  | succ d => exact hs d

/-- The sixteen rows stacked hold them. -/
theorem pay5_apply (a : S1x1024.Idx → EReal) (b : S15x1x1024.Idx → EReal) (t : Fin 16) (j : Fin 1024) :
    k0_pay5 (F := Ideal) a b (ix2 t j) = entries a b j t := by
  unfold k0_pay5
  induction t using Fin.cases with
  | zero =>
    refine (concatenate_pair_apply_left (s₁ := S1x1024) (s₂ := S15x1024) (t := S16x1024) (0 : Fin 2) a _ concatenates_S1x1024_S15x1024_S16x1024_d0 _ rfl (ix2 0 j) ?_).trans rfl
    intro ax
    match ax with
    | ⟨0, _⟩ => rfl
    | ⟨1, _⟩ => rfl
  | succ d =>
    refine (concatenate_pair_apply_right (s₁ := S1x1024) (s₂ := S15x1024) (t := S16x1024) (0 : Fin 2) a _ concatenates_S1x1024_S15x1024_S16x1024_d0 _ rfl rfl (ix2 d j) ?_ ?_).trans ?_
    · intro ax
      match ax with
      | ⟨0, _⟩ => exact fun h => absurd rfl h
      | ⟨1, _⟩ => exact fun _ => rfl
    · rfl
    · refine (shapeCast_apply (s := S15x1x1024) (t := S15x1024) b shapeCasts_S15x1x1024_S15x1024 (ix2 d j) (ix3 d 0 j) ?_).trans rfl
      rw [Shape.rowMajor_val_three, Shape.rowMajor_val_two]
      show (d.val * 1 + 0) * 1024 + j.val = d.val * 1024 + j.val
      omega

variable (a a' : S1x1024.Idx → EReal) (b b' : S15x1x1024.Idx → EReal)

/-- The largest of the sixteen values; -/
theorem pay6_apply (j : Fin 1024) (u : Fin 1) : k0_pay6 (F := Ideal) a b (ix2 u j) = Finset.univ.fold max ⊥ (entries a b j) := by
  unfold k0_pay6
  refine (shapeCast_a_1a_apply _ _ u j).trans ?_
  refine (Ideal.multiReduction_maximumf_single _ _ _ _ _ _).trans ?_
  rw [ofBits_bot]
  exact Finset.fold_congr fun t _ => (congrArg (k0_pay5 (F := Ideal) a b) (lift_stack j t)).trans (pay5_apply a b t j)

/-- and the least of the row numbers beside it. -/
theorem pay7_apply (j : Fin 1024) (u : Fin 1) :
    k0_pay7 (F := Ideal) a b a' b' (ix2 u j)
      = Finset.univ.fold min ⊤ (fun t => if entries a b j t = Finset.univ.fold max ⊥ (entries a b j) then entries a' b' j t
          else (FloatOps.ofBits .f32 0x7F61B1E6#32 : Ideal .f32)) := by
  unfold k0_pay7
  refine (shapeCast_a_1a_apply _ _ u j).trans ?_
  refine (multiReduction_minimumf_eq_fold _ _ _ _ _ _).trans ?_
  refine (Shape.Reduces.fold_filter_drop_single reduces_S16x1024_S1024 FloatOps.minimumf _ _ (ix1 j)).trans ?_
  rw [ofBits_top]
  refine Finset.fold_congr fun t _ => ?_
  refine (congrArg _ (lift_stack j t)).trans ?_
  refine (select_oeq (k0_pay5 (F := Ideal) a b (ix2 t j)) (broadcastTo S16x1024 (k0_pay6 (F := Ideal) a b) broadcasts_S1x1024_S16x1024 (ix2 t j)) _ _).trans ?_
  exact ite_oeq (pay5_apply a b t j) ((broadcastTo_1b_ab_apply (k0_pay6 (F := Ideal) a b) broadcasts_S1x1024_S16x1024 t j).trans (pay6_apply a b j 0))
    (pay5_apply a' b' t j) _

end Cert.KProof

end

end
-- ==== Proof.KernelValue.lean ====
/-
# The kernel's value, column by column, on the extended reals

When the sixteen devices' arguments are the sixteen blocks of rows of one array, each device's result holds, in row 0,
each column's maximum over the whole array and, in row 1, the number of the first row holding it.
-/
module

public import proofs.«01_k».proof.Proof.Launch
public import proofs.«01_k».proof.Proof.Local
public import proofs.«01_k».proof.Proof.Gen.KernelIdeal.Points
public import Idealize.ShloMosaic.Lib.Layout
public import Idealize.ShloMosaic.Lib.Pipeline.ValueKit.Geometry

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.ShloMosaic.ValueKit (rect_emb_unit_val)

variable {F : FTy → Type} [FloatOps F]

variable (m : (ℓ : Loc nD τ sig) → Buf (Elt F) ℓ) (ρ : Dev nD → PrngReg)

/-! ## The arrays the windows move -/

/-- The argument's window is the whole argument: its index is the array's; -/
theorem emb_x (t : Fin 1) (y : S2048x1024.Idx) : (win0_0.blk t).view.emb y = y :=
  funext fun ax => Fin.ext (by
    refine (rect_emb_unit_val _ _ _ y ax).trans ?_
    match ax with
    | ⟨0, _⟩ => exact Nat.zero_add _
    | ⟨1, _⟩ => exact Nat.zero_add _)

/-- and the result's the whole result. -/
theorem emb_o (t : Fin cfg0.N) (y : S2x1024.Idx) : (win0_1.blk t).view.emb y = y :=
  funext fun ax => Fin.ext (by
    refine (rect_emb_unit_val _ _ _ y ax).trans ?_
    match ax with
    | ⟨0, _⟩ => exact Nat.zero_add _
    | ⟨1, _⟩ => exact Nat.zero_add _)

/-- So a device's block is its argument, -/
theorem xstg_eq (c : Dev nD) : xstg m ρ c = m ((c : Thread nD τ).loc main_arg0) :=
  funext fun y => congrArg (m ((c : Thread nD τ).loc main_arg0)) (emb_x 0 y)

/-- reading the result's window reads the array, -/
theorem read_o (t : Fin cfg0.N) (G : S2x1024.Idx → Elt F .f32) : (win0_1.blk t).view.read (Elt F) G = G :=
  funext fun y => congrArg G (emb_o t y)

/-- and writing it back writes all the body left. -/
theorem cut_o (t : Fin cfg0.N) (G : S2x1024.Idx → Elt F .f32) : win0_1.cut (cfg0.grid.coords t) G = G := rfl

/-- What is written back is the result as the body left it. -/
theorem flushed_o (c : Dev nD) (t : Fin cfg0.N) : (dats m ρ 0 c).flushed (1 : Fin 2) t = ((cfg0.win 1).blk t).view.read (Elt F) (outC m ρ c) :=
  (cut_o t (outC m ρ c)).trans (read_o t (outC m ρ c)).symm

/-- Every element of the result is written back. -/
theorem cover_o (i : S2x1024.Idx) : ∃ t : Fin cfg0.N, (cfg0.win 1).flush t = true ∧ i ∈ ((cfg0.win 1).blk t).view.set :=
  ⟨⟨0, by decide⟩, flush0_1 _, Finset.mem_map.mpr ⟨i, Finset.mem_univ _, emb_o _ i⟩⟩

/-- The result array ends at what the body leaves. -/
theorem finalA_o (c : Dev nD) : finalA m ρ c (1 : Fin 2) = outC m ρ c :=
  (dats (F := F) m ρ 0 c).arrAt_eq_of_cover 1 (outC m ρ c) (fun t _ => flushed_o m ρ c t) cover_o

/-! ## The rows reduced at the end -/

/-- The upper row of a pair, -/
theorem rows2_zero {α : Type} (a b : S1x1024.Idx → α) (j : Fin 1024) : rows2 a b (ix2 0 j) = a (ix2 0 j) := if_pos rfl

/-- and the lower. -/
theorem rows2_one {α : Type} (a b : S1x1024.Idx → α) (j : Fin 1024) : rows2 a b (ix2 1 j) = b (ix2 0 j) := if_neg Nat.one_ne_zero

/-- Row 0 of the pair a device sends is its block's maxima, -/
theorem partC_zero (c : Dev nD) (j : Fin 1024) : partC m ρ c (ix2 0 j : S2x1024.Idx) = k0_pay3 (xstg m ρ c) (ix2 0 j) := by
  unfold partC
  exact rows2_zero (k0_pay3 (xstg m ρ c)) _ j

/-- row 1 the rows they are first found at. -/
theorem partC_one (c : Dev nD) (j : Fin 1024) : partC m ρ c (ix2 1 j : S2x1024.Idx) = k0_pay4 (wid c) (xstg m ρ c) (ix2 0 j) := by
  unfold partC
  exact rows2_one _ (k0_pay4 (wid c) (xstg m ρ c)) j

/-- A slot of the filled receive buffer is the pair of the device that fills it. -/
theorem commC_apply (c : Dev nD) (d : Fin 15) (a : Fin 2) (j : Fin 1024) : commC m ρ c (ix3 d a j : S15x2x1024.Idx) = partC m ρ (so c d) (ix2 a j : S2x1024.Idx) := rfl

/-- The sixteen devices in the order device `c` stacks their rows: itself, then those that fill its slots. -/
def stackDev (c : Dev nD) : Fin 16 → Fin 16 := Fin.cons c fun d : Fin 15 => so c d

/-- They are all the devices. -/
theorem stackDev_surj : ∀ (c : Dev nD) (c' : Fin 16), ∃ t, stackDev c t = c' := by decide +kernel

/-- A device's number as the kernel computes it is its number. -/
theorem wid_eq : ∀ c : Dev nD, wid c = BitVec.ofNat 32 c.val := by decide +kernel

/-- A load from the pair of rows reads it at the loaded place's index; -/
theorem readAt_p (r : Rect S2x1024) (f : S2x1024.Idx → Elt F .f32) (y : r.toLoadRect.shape.Idx) (i : S2x1024.Idx) (h : r.toLoadRect.idx y = i) :
    (pM : Memref sig .tc .vmem S2x1024 .f32).view.readAt (Elt F) r.toLoadRect f y = f i := congrArg f h

/-- so does one from the receive buffer. -/
theorem readAt_c (r : Rect S15x2x1024) (f : S15x2x1024.Idx → Elt F .f32) (y : r.toLoadRect.shape.Idx) (i : S15x2x1024.Idx) (h : r.toLoadRect.idx y = i) :
    (cM : Memref sig .tc .vmem S15x2x1024 .f32).view.readAt (Elt F) r.toLoadRect f y = f i := congrArg f h

/-- The device's own maxima, -/
theorem own0_apply (c : Dev nD) (j : Fin 1024) : own0 m ρ c (ix2 0 j) = k0_pay3 (xstg m ρ c) (ix2 0 j) := by
  have e : row0.toLoadRect.idx (ix2 (0 : Fin 1) j) = (ix2 0 j : S2x1024.Idx) := funext fun ax => Fin.ext (by
    refine (rect_emb_unit_val _ _ _ _ ax).trans ?_
    match ax with
    | ⟨0, _⟩ => rfl
    | ⟨1, _⟩ => exact Nat.zero_add _)
  exact (readAt_p row0 (partC m ρ c) _ _ e).trans (partC_zero m ρ c j)

/-- and their rows; -/
theorem own1_apply (c : Dev nD) (j : Fin 1024) : own1 m ρ c (ix2 0 j) = k0_pay4 (wid c) (xstg m ρ c) (ix2 0 j) := by
  have e : row1.toLoadRect.idx (ix2 (0 : Fin 1) j) = (ix2 1 j : S2x1024.Idx) := funext fun ax => Fin.ext (by
    refine (rect_emb_unit_val _ _ _ _ ax).trans ?_
    match ax with
    | ⟨0, _⟩ => rfl
    | ⟨1, _⟩ => exact Nat.zero_add _)
  exact (readAt_p row1 (partC m ρ c) _ _ e).trans (partC_one m ρ c j)

/-- the maxima received, -/
theorem oth0_apply (c : Dev nD) (d : Fin 15) (j : Fin 1024) : oth0 m ρ c (ix3 d 0 j) = k0_pay3 (xstg m ρ (so c d)) (ix2 0 j) := by
  have e : crow0.toLoadRect.idx (ix3 d (0 : Fin 1) j) = (ix3 d 0 j : S15x2x1024.Idx) := funext fun ax => Fin.ext (by
    refine (rect_emb_unit_val _ _ _ _ ax).trans ?_
    match ax with
    | ⟨0, _⟩ => exact Nat.zero_add _
    | ⟨1, _⟩ => rfl
    | ⟨2, _⟩ => exact Nat.zero_add _)
  exact (readAt_c crow0 (commC m ρ c) _ _ e).trans ((commC_apply m ρ c d 0 j).trans (partC_zero m ρ (so c d) j))

/-- and their rows. -/
theorem oth1_apply (c : Dev nD) (d : Fin 15) (j : Fin 1024) : oth1 m ρ c (ix3 d 0 j) = k0_pay4 (wid (so c d)) (xstg m ρ (so c d)) (ix2 0 j) := by
  have e : crow1.toLoadRect.idx (ix3 d (0 : Fin 1) j) = (ix3 d 1 j : S15x2x1024.Idx) := funext fun ax => Fin.ext (by
    refine (rect_emb_unit_val _ _ _ _ ax).trans ?_
    match ax with
    | ⟨0, _⟩ => exact Nat.zero_add _
    | ⟨1, _⟩ => rfl
    | ⟨2, _⟩ => exact Nat.zero_add _)
  exact (readAt_c crow1 (commC m ρ c) _ _ e).trans ((commC_apply m ρ c d 1 j).trans (partC_one m ρ (so c d) j))

/-! ## The result on the extended reals -/

/-- The whole array's shape. -/
abbrev Whole : Shape := ⟨2, ![32768, 1024]⟩

section Value

variable (m : (ℓ : Loc nD τ sig) → Buf (Elt Ideal) ℓ) (X : Whole.Idx → EReal)

/-- The arguments are the sixteen blocks of rows of `X`. -/
def Blocks : Prop := ∀ (c : Fin 16) (k : Fin 2048) (j : Fin 1024), (m (((c : Dev nD) : Thread nD τ).loc main_arg0) : S2048x1024.Idx → EReal) (ix2 k j) = X (ix2 (rowOf c k) j)

variable {m X} {j : Fin 1024} {r : Fin 16 → Fin 2048}

/-- The sixteen maxima device `c` reduces in a column; -/
theorem entries_max (hX : Blocks m X) (hr : ∀ c, First (fun k : Fin 2048 => X (ix2 (rowOf c k) j)) (r c)) (c : Dev nD) :
    entries (own0 m ρ c) (oth0 m ρ c) j = fun t => X (ix2 (rowOf (stackDev c t) (r (stackDev c t))) j) := by
  have h1 : ∀ c' : Dev nD, k0_pay3 (F := Ideal) (xstg m ρ c') (ix2 0 j) = X (ix2 (rowOf c' (r c')) j) := fun c' => by
    rw [xstg_eq, ← hX]
    exact pay3_apply _ (by simpa only [hX c'] using hr c') 0
  exact entries_eq _ _ _ _ ((own0_apply m ρ c j).trans (h1 c)) fun d => (oth0_apply m ρ c d j).trans (h1 (so c d))

/-- and the sixteen row numbers. -/
theorem entries_idx (hX : Blocks m X) (hr : ∀ c, First (fun k : Fin 2048 => X (ix2 (rowOf c k) j)) (r c)) (c : Dev nD) :
    entries (own1 m ρ c) (oth1 m ρ c) j = fun t => (((rowOf (stackDev c t) (r (stackDev c t))).val : ℝ) : EReal) := by
  have h1 : ∀ c' : Dev nD, k0_pay4 (F := Ideal) (wid c') (xstg m ρ c') (ix2 0 j) = (((rowOf c' (r c')).val : ℝ) : EReal) := fun c' => by
    rw [xstg_eq, wid_eq]
    exact pay4_apply _ (by simpa only [hX c'] using hr c') c' 0
  exact entries_eq _ _ _ _ ((own1_apply m ρ c j).trans (h1 c)) fun d => (oth1_apply m ρ c d j).trans (h1 (so c d))

variable {n : Fin 32768}

/-- Each block of a column has a first maximum. -/
theorem exists_blocks (X : Whole.Idx → EReal) (j : Fin 1024) :
    ∃ r : Fin 16 → Fin 2048, ∀ c, First (fun k : Fin 2048 => X (ix2 (rowOf c k) j)) (r c) :=
  ⟨fun c => (exists_first _ (by decide)).choose, fun c => (exists_first _ (by decide)).choose_spec⟩

/-- Row 0 of every device's result is the column's maximum over the whole array; -/
theorem outC_zero (hX : Blocks m X) (h : First (fun k : Fin 32768 => X (ix2 k j)) n) (c : Dev nD) :
    (outC m ρ c : S2x1024.Idx → EReal) (ix2 0 j) = X (ix2 n j) := by
  obtain ⟨r, hr⟩ := exists_blocks X j
  refine (rows2_zero _ _ j).trans ((pay6_apply _ _ j 0).trans ?_)
  rw [entries_max ρ hX hr]
  exact combine_max (X := fun k => X (ix2 k j)) (stackDev_surj c) h hr

/-- row 1 the number of the first row that holds it. -/
theorem outC_one (hX : Blocks m X) (h : First (fun k : Fin 32768 => X (ix2 k j)) n) (c : Dev nD) :
    (outC m ρ c : S2x1024.Idx → EReal) (ix2 1 j) = ((n.val : ℝ) : EReal) := by
  obtain ⟨r, hr⟩ := exists_blocks X j
  refine (rows2_one _ _ j).trans ((pay7_apply _ _ _ _ j 0).trans ?_)
  rw [entries_max ρ hX hr, entries_idx ρ hX hr, combine_max (X := fun k => X (ix2 k j)) (stackDev_surj c) h hr]
  exact combine_min (X := fun k => X (ix2 k j)) (stackDev_surj c) h hr le_big

end Value

end Cert.KProof

end

end
-- ==== Proof.Ref.lean ====
/-
# The reference's run

The reference is a straight line of twelve host operations on one device. Its run leaves every buffer at the
operations applied in order to the contents at launch; its result is named `refOut`.
-/
module

public import proofs.«01_k».proof.Proof.Gen.ReferenceIdeal
public import Idealize.ShloMosaic.Lib.StableHlo.Run
public import Idealize.ShloMosaic.Lib.Quiescent

@[expose] public section

noncomputable section

namespace Cert.KProof.Ref

open Cert.ReferenceIdeal Cert.ReferenceIdeal.Gen

open Idealize.ShloMosaic Idealize.ShloMosaic.TcCoe Idealize.ShloMosaic.StableHlo Idealize.SL.Sem

variable {F : FTy → Type} [FloatOps F]

/-- The index of every column's maximum, as the reference's arg-max computes it. -/
def refArg (x : FVec F S32768x1024 .f32) : IVec S1024 32 := fun j =>
  (Host.argReduce reducer_argmax_f32_i32 x (iotaInDim S32768x1024 32 0) (constant S_ .f32 0xFF800000#32) (constantI S_ 32 0#32)
    reducesTo_S32768x1024_S1024_d0 h_S_ j).2

/-- Every column's maximum. -/
def refMax (x : FVec F S32768x1024 .f32) : FVec F S1024 .f32 :=
  Host.reduce FloatOps.maximumf x (constant S_ .f32 0xFF800000#32) reducesTo_S32768x1024_S1024_d0 h_S_

/-- Two rows, one above the other. -/
def stack (a b : FVec F S1x1024 .f32) : FVec F S2x1024 .f32 :=
  concatenate S2x1024 0 [⟨S1x1024, a⟩, ⟨S1x1024, b⟩] concatenates_S1x1024_S1x1024_S2x1024_d0

/-- The reference's result: the row of maxima, then the row of their indices. -/
def refOut (x : FVec F S32768x1024 .f32) : FVec F S2x1024 .f32 :=
  stack (broadcastInDim S1x1024 ![1] bcast_S1024_S1x1024_1 (refMax x)) (broadcastInDim S1x1024 ![1] bcast_S1024_S1x1024_1 (sitofp .f32 (refArg x)))

/-- The operations in order, the call's among them. -/
abbrev ops : List (HloOp τ sig (Elt F)) :=
  [ TRef.nullary main_call0.v0 (iotaInDim S32768x1024 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S32768x1024_S1024_d0 h_S_ j).1),
    TRef.quaternary (.of main_arg0) main_call0.v0 main_call0.cst main_call0.c main_call0.v1_1
      (fun x y u v j => (Host.argReduce reducer_argmax_f32_i32 x y u v reducesTo_S32768x1024_S1024_d0 h_S_ j).2),
    unary main_v0 main_v1 (sitofp .f32),
    nullary main_cst (constant S_ .f32 0xFF800000#32),
    binary main_arg0 main_cst main_v2 (fun x v => Host.reduce FloatOps.maximumf x v reducesTo_S32768x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5 stack ]

set_option maxRecDepth 1024 in
/-- The program is that straight line. -/
theorem main_eq (c : Dev nD) : main (F := F) c = seq ops := by
  simp only [main, fn_argmax.body, seq, bind_assoc, pure_bind]
  rfl

/-- The result's buffer ends at `refOut` of the argument; -/
theorem out_eq (V : Valuation τ sig (Elt F)) :
    after ops V (main_v5 : DevRef τ sig) = refOut (V (main_arg0 : DevRef τ sig)) := by
  after_results_simp
  rfl

/-- the argument's at what it held. -/
theorem arg0_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- From any memory with zero counters every execution of the reference ends, with the result at `refOut` of the argument and
    the argument unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun r h c => ⟨(h c main_v5).trans (out_eq _), (h c main_arg0).trans (arg0_eq _)⟩)
    (run_seq scopedRefs_eq scopedSems_eq defs main (fun _ => ops) main_eq (fun _ => ops_sub) m ρ)

end Cert.KProof.Ref

end

end
-- ==== Proof.RefValue.lean ====
/-
# The reference's value, column by column, on the extended reals

Row 0 of the reference's result is each column's maximum, row 1 the number of the first row holding it.
-/
module

public import proofs.«01_k».proof.Proof.Ref
public import proofs.«01_k».proof.Proof.Combine
public import Idealize.ShloMosaic.Lib.ValueLayout
public import Idealize.ShloMosaic.Lib.KernelVsHost
public import Idealize.ShloMosaic.Lib.Pipeline.Value

@[expose] public section

set_option maxRecDepth 16384

noncomputable section

namespace Cert.KProof.Ref

open Cert.ReferenceIdeal Cert.ReferenceIdeal.Gen
open Idealize.ShloMosaic Idealize.ShloMosaic.ValueIdx

/-- The pattern of minus infinity is the least value. -/
theorem ofBits_bot : (FloatOps.ofBits .f32 0xFF800000#32 : Ideal .f32) = (⊥ : EReal) := by
  show Ideal.ofBits .f32 _ = _
  simp [Ideal.ofBits, Ideal.ieee]

/-- The rows reduce away. -/
theorem reduces_rows : S32768x1024.Reduces [0] S1024 := by decide

/-- The element that reduces into column `j` from row `k` is `(k, j)`. -/
theorem lift_rows (j : Fin 1024) (k : Fin 32768) : reduces_rows.lift (ix1 j) k = ix2 k j :=
  funext fun ax => match ax with
    | ⟨0, _⟩ => rfl
    | ⟨1, _⟩ => rfl

/-- The elements reduced into column `j` are those of its rows. -/
theorem drop_iff (i : S32768x1024.Idx) (j : Fin 1024) : reduces_rows.drop i = ix1 j ↔ ∃ k : Fin 32768, i = ix2 k j := by
  constructor
  · intro h
    exact ⟨i 0, ((reduces_rows.lift_drop i).symm.trans (congrArg (fun j' => reduces_rows.lift j' (i 0)) h)).trans (lift_rows j (i 0))⟩
  · rintro ⟨k, rfl⟩
    exact (congrArg reduces_rows.drop (lift_rows j k).symm).trans (reduces_rows.drop_lift _ _)

/-- The pairs an arg-max folds are those of the elements reduced into its index. -/
theorem mem_fiber {s t : Shape} {axes : List (Fin s.rank)} {α β : Type} (x : s.Idx → α) (y : s.Idx → β) (h : s.ReducesTo axes t) (j : t.Idx) (q : α × β) :
    q ∈ Host.argReduceFiber x y h j ↔ ∃ i, h.drop i = j ∧ q = (x i, y i) := by
  unfold Host.argReduceFiber
  rw [List.mem_map]
  constructor
  · rintro ⟨p, hp, rfl⟩
    exact ⟨_, of_decide_eq_true (List.mem_filter.mp hp).2, rfl⟩
  · rintro ⟨i, hi, rfl⟩
    refine ⟨s.rowMajor i, List.mem_filter.mpr ⟨List.mem_finRange _, decide_eq_true ?_⟩, ?_⟩
    · rw [Equiv.symm_apply_apply]
      exact hi
    · rw [Equiv.symm_apply_apply]

/-- For the reference's arg-max: a value and its row's number, for each row of the column. -/
theorem mem_column (x : S32768x1024.Idx → EReal) (j : Fin 1024) (q : EReal × BitVec 32) :
    q ∈ Host.argReduceFiber x (iotaInDim S32768x1024 32 0) reducesTo_S32768x1024_S1024_d0 (ix1 j)
      ↔ ∃ k : Fin 32768, q = (x (ix2 k j), BitVec.ofNat 32 k.val) := by
  refine (mem_fiber _ _ _ _ _).trans ⟨?_, ?_⟩
  · rintro ⟨i, hi, rfl⟩
    obtain ⟨k, rfl⟩ := (drop_iff i j).mp hi
    exact ⟨k, rfl⟩
  · rintro ⟨k, rfl⟩
    exact ⟨ix2 k j, (drop_iff _ j).mpr ⟨k, rfl⟩, rfl⟩

/-- Two selects whose conditions hold by their first disjunct. -/
theorem select_or_true {α β : Type} (x y : α) (i k : β) (p q : BitVec 1) :
    (Scalar.select (IntOp.ori (BitVec.ofBool true) p) x y, Scalar.select (IntOp.ori (IntOp.ori (BitVec.ofBool true) p) q) i k) = (x, i) := by
  have hp : ∀ p : BitVec 1, IntOp.ori (BitVec.ofBool true) p = 1#1 := by decide
  have hq : ∀ q : BitVec 1, IntOp.ori 1#1 q = 1#1 := by decide
  rw [hp, hq]
  rfl

/-- The arg-max's step keeps one of two pairs, as good as both. -/
theorem reducer_better (a b : EReal × BitVec 32) :
    ((reducer_argmax_f32_i32 (F := Ideal) a b : EReal × BitVec 32) = a ∨ (reducer_argmax_f32_i32 (F := Ideal) a b : EReal × BitVec 32) = b)
      ∧ Better (reducer_argmax_f32_i32 (F := Ideal) a b) a ∧ Better (reducer_argmax_f32_i32 (F := Ideal) a b) b := by
  obtain ⟨x, i⟩ := a
  obtain ⟨y, k⟩ := b
  have e : (reducer_argmax_f32_i32 (F := Ideal) (x, i) (y, k) : EReal × BitVec 32)
      = if y < x ∨ (x = y ∧ i.toInt < k.toInt) then (x, i) else (y, k) := by
    show (Scalar.select (IntOp.ori (BitVec.ofBool (decide (y < x))) (BitVec.ofBool (decide (x ≠ x)))) x y,
      Scalar.select (IntOp.ori (IntOp.ori (BitVec.ofBool (decide (y < x))) (BitVec.ofBool (decide (x ≠ x))))
        (IntOp.andi (BitVec.ofBool (decide (x = y))) (BitVec.ofBool (BitVec.slt i k)))) i k) = _
    rw [BitVec.slt]
    by_cases h1 : y < x
    · rw [if_pos (Or.inl h1), decide_eq_true h1]
      exact select_or_true x y i k _ _
    · by_cases h2 : x = y
      · subst h2
        by_cases h3 : i.toInt < k.toInt <;> simp [h3, Scalar.select, IntOp.ori, IntOp.andi]
      · simp [h1, h2, Scalar.select, IntOp.ori, IntOp.andi]
  rw [e]
  by_cases h1 : y < x
  · rw [if_pos (.inl h1)]
    exact ⟨.inl rfl, .refl _, .inl h1⟩
  · by_cases h2 : x = y
    · by_cases h3 : i.toInt < k.toInt
      · rw [if_pos (.inr ⟨h2, h3⟩)]
        exact ⟨.inl rfl, .refl _, .inr ⟨h2.symm, h3.le⟩⟩
      · rw [if_neg (fun h => h.elim h1 fun h => h3 h.2)]
        exact ⟨.inr rfl, .inr ⟨h2, not_lt.mp h3⟩, .refl _⟩
    · rw [if_neg (fun h => h.elim h1 fun h => h2 h.1)]
      exact ⟨.inr rfl, .inl (lt_of_le_of_ne (not_lt.mp h1) h2), .refl _⟩

variable (x : S32768x1024.Idx → EReal) {j : Fin 1024} {n : Fin 32768}

/-- The reference's maximum of a column. -/
theorem refMax_apply (h : First (fun k : Fin 32768 => x (ix2 k j)) n) : refMax (F := Ideal) x (ix1 j) = x (ix2 n j) := by
  unfold refMax
  rw [hostReduce_maximumf_eq_multiReduction (F := Ideal) x 0xFF800000#32 reducesTo_S32768x1024_S1024_d0 h_S_ reduces_rows (.inl rfl) rfl]
  refine (Ideal.multiReduction_maximumf_single _ _ _ _ _ _).trans ?_
  rw [ofBits_bot]
  refine Eq.trans (Finset.fold_congr fun k _ => ?_) h.fold_max
  exact congrArg x (lift_rows j k)

/-- A fold's second part, from an equal start. -/
theorem foldl_start {α β : Type} {f : α × β → α × β → α × β} {p p' : α × β} (e : p = p') {l : List (α × β)} : (l.foldl f p).2 = (l.foldl f p').2 := by
  rw [e]

/-- The fold's start: the least value and row 0. -/
theorem start_eq : ((constant (F := Ideal) S_ .f32 0xFF800000#32 (Shape.Idx.first h_S_), constantI S_ 32 0#32 (Shape.Idx.first h_S_)) : EReal × BitVec 32)
    = (⊥, 0#32) := Prod.ext ofBits_bot rfl

/-- The index an arg-max finds is a fold's over the pairs reduced. -/
theorem argReduce_snd {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx) :
    (Host.argReduce f x y ix iy h hu j).2 = (List.foldl f (ix (Shape.Idx.first hu), iy (Shape.Idx.first hu)) (Host.argReduceFiber x y h j)).2 := by
  rw [Ideal.argReduce_eq_reduce2, Host.reduce2_eq_foldl_fiber]

/-- The reference's arg-max, spelt out. -/
theorem refArg_def : refArg (F := Ideal) x = fun j =>
    (Host.argReduce (reducer_argmax_f32_i32 (F := Ideal)) x (iotaInDim S32768x1024 32 0) (constant (F := Ideal) S_ .f32 0xFF800000#32) (constantI S_ 32 0#32)
      reducesTo_S32768x1024_S1024_d0 h_S_ j).2 := rfl

/-- The reference's arg-max is the fold over the column's pairs. -/
theorem refArg_eq (j : S1024.Idx) : refArg (F := Ideal) x j
    = (List.foldl (reducer_argmax_f32_i32 (F := Ideal)) (constant (F := Ideal) S_ .f32 0xFF800000#32 (Shape.Idx.first h_S_), constantI S_ 32 0#32 (Shape.Idx.first h_S_))
      (Host.argReduceFiber x (iotaInDim S32768x1024 32 0) reducesTo_S32768x1024_S1024_d0 j)).2 :=
  (congrFun (refArg_def x) j).trans <| argReduce_snd (reducer_argmax_f32_i32 (F := Ideal)) x (iotaInDim S32768x1024 32 0) (constant (F := Ideal) S_ .f32 0xFF800000#32) (constantI S_ 32 0#32)
    reducesTo_S32768x1024_S1024_d0 h_S_ j

/-- The reference's index of it. -/
theorem refArg_apply (h : First (fun k : Fin 32768 => x (ix2 k j)) n) : refArg (F := Ideal) x (ix1 j) = BitVec.ofNat 32 n.val := by
  rw [refArg_eq, foldl_start start_eq]
  exact h.foldl (by norm_num) reducer_better _ (mem_column x j)

/-- A row of a column's entries read at one. -/
theorem row_apply (y : S1024.Idx → EReal) (u : Fin 1) (j : Fin 1024) :
    broadcastInDim S1x1024 ![1] bcast_S1024_S1x1024_1 y (ix2 u j) = y (ix1 j) :=
  broadcastInDim_apply _ _ _ _ _ fun ax => match ax with
    | ⟨0, _⟩ => rfl

/-- The upper of two rows, -/
theorem stack_zero (a b : S1x1024.Idx → EReal) (j : Fin 1024) : stack (F := Ideal) a b (ix2 0 j) = a (ix2 0 j) :=
  concatenate_pair_apply_left (s₁ := S1x1024) (s₂ := S1x1024) (t := S2x1024) (0 : Fin 2) a b concatenates_S1x1024_S1x1024_S2x1024_d0 _ rfl (ix2 0 j)
    fun ax => match ax with
      | ⟨0, _⟩ => rfl
      | ⟨1, _⟩ => rfl

/-- and the lower. -/
theorem stack_one (a b : S1x1024.Idx → EReal) (j : Fin 1024) : stack (F := Ideal) a b (ix2 1 j) = b (ix2 0 j) :=
  concatenate_pair_apply_right (s₁ := S1x1024) (s₂ := S1x1024) (t := S2x1024) (0 : Fin 2) a b concatenates_S1x1024_S1x1024_S2x1024_d0 _ rfl rfl (ix2 0 j)
    (fun ax => match ax with
      | ⟨0, _⟩ => fun h => absurd rfl h
      | ⟨1, _⟩ => fun _ => rfl)
    rfl

/-- Row 0 of the reference's result is the column's maximum; -/
theorem refOut_zero (h : First (fun k : Fin 32768 => x (ix2 k j)) n) : refOut (F := Ideal) x (ix2 0 j) = x (ix2 n j) := by
  unfold refOut
  exact (stack_zero _ _ j).trans ((row_apply _ 0 j).trans (refMax_apply x h))

/-- row 1 the number of the first row that holds it. -/
theorem refOut_one (h : First (fun k : Fin 32768 => x (ix2 k j)) n) : refOut (F := Ideal) x (ix2 1 j) = ((n.val : ℝ) : EReal) := by
  unfold refOut
  refine (stack_one _ _ j).trans ((row_apply _ 0 j).trans ?_)
  show (((refArg (F := Ideal) x (ix1 j)).toInt : ℝ) : EReal) = _
  rw [refArg_apply x h, toInt_ofNat (by have := n.isLt; omega)]
  exact congrArg (fun r : ℝ => (r : EReal)) (Int.cast_natCast _)

end Cert.KProof.Ref

end

end
-- ==== Proof.lean ====
/-
# The kernel's claims

Every execution of the kernel on the sixteen devices ends, at the bit patterns and on the extended reals, with its
argument unchanged and every semaphore counter at zero; the same of the reference; and on the extended reals the kernel's
result is the reference's on every device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Adequacy
public import Idealize.ShloMosaic.Init

@[expose] public section

set_option maxRecDepth 16384

noncomputable section

namespace Cert.Proof

open Idealize.ShloMosaic Idealize.ShloMosaic.TcCoe Idealize.ShloMosaic.ValueIdx Idealize.SL.Sem Cert.KProof

/-- What the run leaves, for any float values: the argument unchanged and the counters at zero. -/
theorem kernel_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run (Cert.KernelIdeal.defs (F := F)) _ _).mono (fun _ h => ⟨fun c => (h.1 c 0).trans (finalA_x m ρ c), h.2⟩) (run_main m ρ)

/-- The kernel printed for the bit patterns and for the extended reals has one text: its body, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- and so all its bodies. -/
theorem defs_eq : Cert.Kernel.defs (F := Bits) = Cert.KernelIdeal.defs (F := Bits) := by
  unfold Cert.Kernel.defs Cert.KernelIdeal.defs
  rw [defs₀_eq]
  rfl

/-- The kernel's run at the bit patterns. -/
theorem kernel : Cert.quiescent_Kernel := fun m ρ _ => by
  rw [defs_eq]
  exact kernel_frame (F := Bits) m ρ

/-- The kernel's run on the extended reals. -/
theorem kernel_ideal : Cert.quiescent_KernelIdeal := fun m ρ _ => kernel_frame (F := Ideal) m ρ

/-- The reference's run on the extended reals; it has no semaphore. -/
theorem reference_ideal : Cert.quiescent_ReferenceIdeal := fun m ρ _ =>
  (θ_run (Cert.ReferenceIdeal.defs (F := Ideal)) _ _).mono (fun r h => ⟨fun c => (h c).2, sem_eq_zero_of_no_sems (by decide) r.2⟩)
    (Cert.KProof.Ref.run_main (F := Ideal) m ρ)

/-- Two results with equal rows are equal. -/
theorem rows_ext {f g : (⟨2, ![2, 1024]⟩ : Shape).Idx → EReal} (h0 : ∀ j, f (ix2 0 j) = g (ix2 0 j)) (h1 : ∀ j, f (ix2 1 j) = g (ix2 1 j)) : f = g := by
  have h : ∀ (a : Fin 2) (j : Fin 1024), f (ix2 a j) = g (ix2 a j) := fun a j => match a with
    | ⟨0, _⟩ => h0 j
    | ⟨1, _⟩ => h1 j
  funext i
  have e : i = ix2 (i 0) (i 1) := funext fun ax => match ax with
    | ⟨0, _⟩ => rfl
    | ⟨1, _⟩ => rfl
  exact (congrArg f e).trans ((h (i 0) (i 1)).trans (congrArg g e).symm)

/-- Each device's result is the reference's result of the whole array. -/
theorem out_eq {m : (ℓ : Loc Cert.KernelIdeal.nD Cert.KernelIdeal.τ Cert.KernelIdeal.sig) → Buf (Elt Ideal) ℓ} (ρ : Dev Cert.KernelIdeal.nD → PrngReg)
    {X : Whole.Idx → EReal} (hX : Blocks m X) (c : Dev Cert.KernelIdeal.nD) :
    (outC m ρ c : (⟨2, ![2, 1024]⟩ : Shape).Idx → EReal) = Cert.KProof.Ref.refOut (F := Ideal) X :=
  rows_ext
    (fun j => by
      obtain ⟨n, hn⟩ := exists_first (fun k : Fin 32768 => X (ix2 k j)) (by decide)
      exact (outC_zero ρ hX hn c).trans (Cert.KProof.Ref.refOut_zero X hn).symm)
    (fun j => by
      obtain ⟨n, hn⟩ := exists_first (fun k : Fin 32768 => X (ix2 k j)) (by decide)
      exact (outC_one ρ hX hn c).trans (Cert.KProof.Ref.refOut_one X hn).symm)

/-- The kernel's result is the reference's. -/
theorem algebraic : Cert.algebraic_KernelIdeal_ReferenceIdeal := fun m ρ m' ρ' _ hm => by
  have hX : Blocks m (m' (((0 : Dev Cert.ReferenceIdeal.nD).tc : Thread Cert.ReferenceIdeal.nD Cert.ReferenceIdeal.τ).loc Cert.ReferenceIdeal.main_arg0)) := fun c k j => by
    rw [hm c, Layout.block_apply]
    exact congrArg _ (funext fun ax => match ax with
      | ⟨0, _⟩ => rfl
      | ⟨1, _⟩ => rfl)
  refine ⟨Cert.KProof.Ref.refOut (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c 1).trans ((finalA_o m ρ c).trans (out_eq ρ hX c)), (h.1 c 0).trans (finalA_x m ρ c)⟩) (run_main (F := Ideal) m ρ)
  · exact (θ_run (Cert.ReferenceIdeal.defs (F := Ideal)) _ _).mono (fun _ h => h 0) (Cert.KProof.Ref.run_main (F := Ideal) m' ρ')

theorem claim : Cert.Claim :=
  ⟨Cert.Kernel.Gen.facts, Cert.KernelIdeal.Gen.facts, Cert.ReferenceIdeal.Gen.facts, kernel, kernel_ideal, reference_ideal, trivial, algebraic⟩

end Cert.Proof

end
